-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x4096 .f32) (main_arg2 : FVec F S2x512x8x64 .f32) (main_arg3 : FVec F S2x512x8x64 .f32) (main_arg4 : FVec F S4096x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_scores_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .f32) (main_arg1 : FVec F S768x4096 .f32) (main_arg2 : FVec F S2x512x64x64 .f32) (main_arg3 : FVec F S2x512x64x64 .f32) (main_arg4 : FVec F S4096x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x64x64 .f32 := Host.absf main_arg2
  let main_cst_2 : FVec F S_ .f32 := constant S_ .f32 0x7F800000#32
  let main_v10 : FVec F S2x512x64x64 .f32 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S2x3x3x512x256 : Shape := ⟨5, ![2, 3, 3, 512, 256]⟩
abbrev S2x3x3 : Shape := ⟨3, ![2, 3, 3]⟩
abbrev S512x512 : Shape := ⟨2, ![512, 512]⟩
abbrev S768x512 : Shape := ⟨2, ![768, 512]⟩
abbrev S_ : Shape := ⟨0, ![]⟩
abbrev S1x512x768 : Shape := ⟨3, ![1, 512, 768]⟩
abbrev S512x768 : Shape := ⟨2, ![512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S64x768 : Shape := ⟨2, ![64, 768]⟩
abbrev S1x1x1 : Shape := ⟨3, ![1, 1, 1]⟩
abbrev S1x1x1x512x256 : Shape := ⟨5, ![1, 1, 1, 512, 256]⟩
abbrev S512x256 : Shape := ⟨2, ![512, 256]⟩
abbrev S1x512x256 : Shape := ⟨3, ![1, 512, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x512x8x64, .f32⟩
  | .hbm, ⟨3, _⟩ => ⟨S2x512x8x64, .f32⟩
  | .hbm, ⟨4, _⟩ => ⟨S4096x768, .f32⟩
  | .hbm, ⟨5, _⟩ => ⟨S2x512x768, .f32⟩
  | .local _ .vmem, ⟨0, _⟩ => ⟨S2x512x768, .f32⟩
  | .local _ .vmem, ⟨1, _⟩ => ⟨S768x4096, .f32⟩
  | .local _ .vmem, ⟨2, _⟩ => ⟨S2x512x8x64, .f32⟩
  | .local _ .vmem, ⟨3, _⟩ => ⟨S2x512x8x64, .f32⟩
  | .local _ .vmem, ⟨4, _⟩ => ⟨S4096x768, .f32⟩
  | .local _ .vmem, ⟨5, _⟩ => ⟨S2x512x768, .f32⟩
  | .local _ .vmem, ⟨6, _⟩ => ⟨S2x512x768, .bf16⟩
  | .local _ .vmem, ⟨7, _⟩ => ⟨S2x3x3x512x256, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v18 : BitVec 32 := Scalar.muli v2 c512_i32
  let v19 : Index := Scalar.indexCast v18
  ![0, v19.toNat]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v25 : BitVec 32 := Scalar.xori v5 c1_i32_3
  let c1_i32_4 : BitVec 32 := 1#32
  let v26 : BitVec 32 := Scalar.shrsi v25 c1_i32_4
  let c1_i32_5 : BitVec 32 := 1#32
  let v27 : BitVec 32 := Scalar.andi v26 c1_i32_5
  let v28 : BitVec 32 := Scalar.xori v25 v27
  let c1_i32_7 : BitVec 32 := 1#32
  let v29 : BitVec 32 := Scalar.muli v28 c1_i32_7
  let v30 : BitVec 32 := Scalar.addi c0_i32 v29
  v30.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v31 : BitVec 32 := Scalar.xori v5 c2_i32
  let c1_i32_8 : BitVec 32 := 1#32
  let v32 : BitVec 32 := Scalar.shrsi v31 c1_i32_8
  let c1_i32_9 : BitVec 32 := 1#32
  let v33 : BitVec 32 := Scalar.andi v32 c1_i32_9
  let v34 : BitVec 32 := Scalar.xori v31 v33
  let c1_i32_11 : BitVec 32 := 1#32
  let v35 : BitVec 32 := Scalar.muli v34 c1_i32_11
  let v36 : BitVec 32 := Scalar.addi c0_i32_12 v35
  v36.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v37 : BitVec 32 := Scalar.xori v5 c4_i32
  let c1_i32_13 : BitVec 32 := 1#32
  let v38 : BitVec 32 := Scalar.shrsi v37 c1_i32_13
  let c1_i32_14 : BitVec 32 := 1#32
  let v39 : BitVec 32 := Scalar.andi v38 c1_i32_14
  let v40 : BitVec 32 := Scalar.xori v37 v39
  let c1_i32_16 : BitVec 32 := 1#32
  let v41 : BitVec 32 := Scalar.muli v40 c1_i32_16
  let v42 : BitVec 32 := Scalar.addi c0_i32_17 v41
  v42.toNat
def k0_off2 (d0 : Dev nD) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_35 : BitVec 32 := 512#32
  let v61 : BitVec 32 := Scalar.muli v2 c512_i32_35
  let v62 : BitVec 32 := Scalar.addi v61 c0_i32_36
  let v63 : Index := Scalar.indexCast v62
  let c0_37 : Index := 0#32
  ![v63.toNat, 0]
def k0_dev4 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_141 : BitVec 32 := 4#32
  let v219 : BitVec 32 := Scalar.xori v5 c4_i32_141
  let c1_i32_142 : BitVec 32 := 1#32
  let v220 : BitVec 32 := Scalar.shrsi v219 c1_i32_142
  let c1_i32_143 : BitVec 32 := 1#32
  let v221 : BitVec 32 := Scalar.andi v220 c1_i32_143
  let v222 : BitVec 32 := Scalar.xori v219 v221
  let c1_i32_154 : BitVec 32 := 1#32
  let v223 : BitVec 32 := Scalar.muli v222 c1_i32_154
  let v224 : BitVec 32 := Scalar.addi c0_i32_155 v223
  v224.toNat
def k0_dev5 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_160 : BitVec 32 := 2#32
  let v233 : BitVec 32 := Scalar.xori v5 c2_i32_160
  let c1_i32_161 : BitVec 32 := 1#32
  let v234 : BitVec 32 := Scalar.shrsi v233 c1_i32_161
  let c1_i32_162 : BitVec 32 := 1#32
  let v235 : BitVec 32 := Scalar.andi v234 c1_i32_162
  let v236 : BitVec 32 := Scalar.xori v233 v235
  let c1_i32_173 : BitVec 32 := 1#32
  let v237 : BitVec 32 := Scalar.muli v236 c1_i32_173
  let v238 : BitVec 32 := Scalar.addi c0_i32_174 v237
  v238.toNat
def k0_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_179 : BitVec 32 := 1#32
  let v247 : BitVec 32 := Scalar.xori v5 c1_i32_179
  let c1_i32_180 : BitVec 32 := 1#32
  let v248 : BitVec 32 := Scalar.shrsi v247 c1_i32_180
  let c1_i32_181 : BitVec 32 := 1#32
  let v249 : BitVec 32 := Scalar.andi v248 c1_i32_181
  let v250 : BitVec 32 := Scalar.xori v247 v249
  let c1_i32_192 : BitVec 32 := 1#32
  let v251 : BitVec 32 := Scalar.muli v250 c1_i32_192
  let v252 : BitVec 32 := Scalar.addi c0_i32_193 v251
  v252.toNat
def k0_dev7 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_334 : BitVec 32 := 4#32
  let v437 : BitVec 32 := Scalar.xori v5 c4_i32_334
  let c1_i32_335 : BitVec 32 := 1#32
  let v438 : BitVec 32 := Scalar.shrsi v437 c1_i32_335
  let c1_i32_336 : BitVec 32 := 1#32
  let v439 : BitVec 32 := Scalar.andi v438 c1_i32_336
  let v440 : BitVec 32 := Scalar.xori v437 v439
  let c1_i32_347 : BitVec 32 := 1#32
  let v441 : BitVec 32 := Scalar.muli v440 c1_i32_347
  let v442 : BitVec 32 := Scalar.addi c0_i32_348 v441
  v442.toNat
def k0_dev8 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_353 : BitVec 32 := 2#32
  let v451 : BitVec 32 := Scalar.xori v5 c2_i32_353
  let c1_i32_354 : BitVec 32 := 1#32
  let v452 : BitVec 32 := Scalar.shrsi v451 c1_i32_354
  let c1_i32_355 : BitVec 32 := 1#32
  let v453 : BitVec 32 := Scalar.andi v452 c1_i32_355
  let v454 : BitVec 32 := Scalar.xori v451 v453
  let c1_i32_366 : BitVec 32 := 1#32
  let v455 : BitVec 32 := Scalar.muli v454 c1_i32_366
  let v456 : BitVec 32 := Scalar.addi c0_i32_367 v455
  v456.toNat
def k0_dev9 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_372 : BitVec 32 := 1#32
  let v465 : BitVec 32 := Scalar.xori v5 c1_i32_372
  let c1_i32_373 : BitVec 32 := 1#32
  let v466 : BitVec 32 := Scalar.shrsi v465 c1_i32_373
  let c1_i32_374 : BitVec 32 := 1#32
  let v467 : BitVec 32 := Scalar.andi v466 c1_i32_374
  let v468 : BitVec 32 := Scalar.xori v465 v467
  let c1_i32_385 : BitVec 32 := 1#32
  let v469 : BitVec 32 := Scalar.muli v468 c1_i32_385
  let v470 : BitVec 32 := Scalar.addi c0_i32_386 v469
  v470.toNat
def k0_dev10 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_515 : BitVec 32 := 2#32
  let v545 : BitVec 32 := Scalar.xori v5 c2_i32_515
  let c1_i32_516 : BitVec 32 := 1#32
  let v546 : BitVec 32 := Scalar.shrsi v545 c1_i32_516
  let c1_i32_517 : BitVec 32 := 1#32
  let v547 : BitVec 32 := Scalar.andi v546 c1_i32_517
  let v548 : BitVec 32 := Scalar.xori v545 v547
  let c1_i32_528 : BitVec 32 := 1#32
  let v549 : BitVec 32 := Scalar.muli v548 c1_i32_528
  let v550 : BitVec 32 := Scalar.addi c0_i32_529 v549
  v550.toNat
def k0_dev11 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_534 : BitVec 32 := 1#32
  let v559 : BitVec 32 := Scalar.xori v5 c1_i32_534
  let c1_i32_535 : BitVec 32 := 1#32
  let v560 : BitVec 32 := Scalar.shrsi v559 c1_i32_535
  let c1_i32_536 : BitVec 32 := 1#32
  let v561 : BitVec 32 := Scalar.andi v560 c1_i32_536
  let v562 : BitVec 32 := Scalar.xori v559 v561
  let c1_i32_547 : BitVec 32 := 1#32
  let v563 : BitVec 32 := Scalar.muli v562 c1_i32_547
  let v564 : BitVec 32 := Scalar.addi c0_i32_548 v563
  v564.toNat
def k0_dev12 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_553 : BitVec 32 := 4#32
  let v573 : BitVec 32 := Scalar.xori v5 c4_i32_553
  let c1_i32_554 : BitVec 32 := 1#32
  let v574 : BitVec 32 := Scalar.shrsi v573 c1_i32_554
  let c1_i32_555 : BitVec 32 := 1#32
  let v575 : BitVec 32 := Scalar.andi v574 c1_i32_555
  let v576 : BitVec 32 := Scalar.xori v573 v575
  let c1_i32_566 : BitVec 32 := 1#32
  let v577 : BitVec 32 := Scalar.muli v576 c1_i32_566
  let v578 : BitVec 32 := Scalar.addi c0_i32_567 v577
  v578.toNat
def k0_dev13 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_698 : BitVec 32 := 2#32
  let v653 : BitVec 32 := Scalar.xori v5 c2_i32_698
  let c1_i32_699 : BitVec 32 := 1#32
  let v654 : BitVec 32 := Scalar.shrsi v653 c1_i32_699
  let c1_i32_700 : BitVec 32 := 1#32
  let v655 : BitVec 32 := Scalar.andi v654 c1_i32_700
  let v656 : BitVec 32 := Scalar.xori v653 v655
  let c1_i32_711 : BitVec 32 := 1#32
  let v657 : BitVec 32 := Scalar.muli v656 c1_i32_711
  let v658 : BitVec 32 := Scalar.addi c0_i32_712 v657
  v658.toNat
def k0_dev14 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_717 : BitVec 32 := 1#32
  let v667 : BitVec 32 := Scalar.xori v5 c1_i32_717
  let c1_i32_718 : BitVec 32 := 1#32
  let v668 : BitVec 32 := Scalar.shrsi v667 c1_i32_718
  let c1_i32_719 : BitVec 32 := 1#32
  let v669 : BitVec 32 := Scalar.andi v668 c1_i32_719
  let v670 : BitVec 32 := Scalar.xori v667 v669
  let c1_i32_730 : BitVec 32 := 1#32
  let v671 : BitVec 32 := Scalar.muli v670 c1_i32_730
  let v672 : BitVec 32 := Scalar.addi c0_i32_731 v671
  v672.toNat
def k0_dev15 (d0 : Dev nD) : Nat :=
  let c0_i32_750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_736 : BitVec 32 := 4#32
  let v681 : BitVec 32 := Scalar.xori v5 c4_i32_736
  let c1_i32_737 : BitVec 32 := 1#32
  let v682 : BitVec 32 := Scalar.shrsi v681 c1_i32_737
  let c1_i32_738 : BitVec 32 := 1#32
  let v683 : BitVec 32 := Scalar.andi v682 c1_i32_738
  let v684 : BitVec 32 := Scalar.xori v681 v683
  let c1_i32_749 : BitVec 32 := 1#32
  let v685 : BitVec 32 := Scalar.muli v684 c1_i32_749
  let v686 : BitVec 32 := Scalar.addi c0_i32_750 v685
  v686.toNat
def k0_dev16 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_881 : BitVec 32 := 1#32
  let v761 : BitVec 32 := Scalar.xori v5 c1_i32_881
  let c1_i32_882 : BitVec 32 := 1#32
  let v762 : BitVec 32 := Scalar.shrsi v761 c1_i32_882
  let c1_i32_883 : BitVec 32 := 1#32
  let v763 : BitVec 32 := Scalar.andi v762 c1_i32_883
  let v764 : BitVec 32 := Scalar.xori v761 v763
  let c1_i32_894 : BitVec 32 := 1#32
  let v765 : BitVec 32 := Scalar.muli v764 c1_i32_894
  let v766 : BitVec 32 := Scalar.addi c0_i32_895 v765
  v766.toNat
def k0_dev17 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_900 : BitVec 32 := 4#32
  let v775 : BitVec 32 := Scalar.xori v5 c4_i32_900
  let c1_i32_901 : BitVec 32 := 1#32
  let v776 : BitVec 32 := Scalar.shrsi v775 c1_i32_901
  let c1_i32_902 : BitVec 32 := 1#32
  let v777 : BitVec 32 := Scalar.andi v776 c1_i32_902
  let v778 : BitVec 32 := Scalar.xori v775 v777
  let c1_i32_913 : BitVec 32 := 1#32
  let v779 : BitVec 32 := Scalar.muli v778 c1_i32_913
  let v780 : BitVec 32 := Scalar.addi c0_i32_914 v779
  v780.toNat
def k0_dev18 (d0 : Dev nD) : Nat :=
  let c0_i32_933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_919 : BitVec 32 := 2#32
  let v789 : BitVec 32 := Scalar.xori v5 c2_i32_919
  let c1_i32_920 : BitVec 32 := 1#32
  let v790 : BitVec 32 := Scalar.shrsi v789 c1_i32_920
  let c1_i32_921 : BitVec 32 := 1#32
  let v791 : BitVec 32 := Scalar.andi v790 c1_i32_921
  let v792 : BitVec 32 := Scalar.xori v789 v791
  let c1_i32_932 : BitVec 32 := 1#32
  let v793 : BitVec 32 := Scalar.muli v792 c1_i32_932
  let v794 : BitVec 32 := Scalar.addi c0_i32_933 v793
  v794.toNat
def k0_dev19 (d0 : Dev nD) : Nat :=
  let c0_i32_1078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1064 : BitVec 32 := 1#32
  let v869 : BitVec 32 := Scalar.xori v5 c1_i32_1064
  let c1_i32_1065 : BitVec 32 := 1#32
  let v870 : BitVec 32 := Scalar.shrsi v869 c1_i32_1065
  let c1_i32_1066 : BitVec 32 := 1#32
  let v871 : BitVec 32 := Scalar.andi v870 c1_i32_1066
  let v872 : BitVec 32 := Scalar.xori v869 v871
  let c1_i32_1077 : BitVec 32 := 1#32
  let v873 : BitVec 32 := Scalar.muli v872 c1_i32_1077
  let v874 : BitVec 32 := Scalar.addi c0_i32_1078 v873
  v874.toNat
def k0_dev20 (d0 : Dev nD) : Nat :=
  let c0_i32_1097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1083 : BitVec 32 := 4#32
  let v883 : BitVec 32 := Scalar.xori v5 c4_i32_1083
  let c1_i32_1084 : BitVec 32 := 1#32
  let v884 : BitVec 32 := Scalar.shrsi v883 c1_i32_1084
  let c1_i32_1085 : BitVec 32 := 1#32
  let v885 : BitVec 32 := Scalar.andi v884 c1_i32_1085
  let v886 : BitVec 32 := Scalar.xori v883 v885
  let c1_i32_1096 : BitVec 32 := 1#32
  let v887 : BitVec 32 := Scalar.muli v886 c1_i32_1096
  let v888 : BitVec 32 := Scalar.addi c0_i32_1097 v887
  v888.toNat
def k0_dev21 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1102 : BitVec 32 := 2#32
  let v897 : BitVec 32 := Scalar.xori v5 c2_i32_1102
  let c1_i32_1103 : BitVec 32 := 1#32
  let v898 : BitVec 32 := Scalar.shrsi v897 c1_i32_1103
  let c1_i32_1104 : BitVec 32 := 1#32
  let v899 : BitVec 32 := Scalar.andi v898 c1_i32_1104
  let v900 : BitVec 32 := Scalar.xori v897 v899
  let c1_i32_1115 : BitVec 32 := 1#32
  let v901 : BitVec 32 := Scalar.muli v900 c1_i32_1115
  let v902 : BitVec 32 := Scalar.addi c0_i32_1116 v901
  v902.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x512x64x64, .f32⟩
  | .hbm, ⟨3, _⟩ => ⟨S2x512x64x64, .f32⟩
  | .hbm, ⟨4, _⟩ => ⟨S4096x768, .f32⟩
  | .hbm, ⟨5, _⟩ => ⟨S2x512x4096, .f32⟩
  | .hbm, ⟨6, _⟩ => ⟨S2x512x64x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S2x64x512x512, .f32⟩
  | .hbm, ⟨29, _⟩ => ⟨S_, .f32⟩
  | .hbm, ⟨30, _⟩ => ⟨S2x64x512x512, .f32⟩
  | .hbm, ⟨31, _⟩ => ⟨S2x64x512x512, .f32⟩
  | .hbm, ⟨32, _⟩ => ⟨S1x1x512x512, .i1⟩
  | .hbm, ⟨33, _⟩ => ⟨S_, .f32⟩
  | .hbm, ⟨34, _⟩ => ⟨S_, .f32⟩
  | .hbm, ⟨35, _⟩ => ⟨S2x64x512x512, .i1⟩
  | .hbm, ⟨36, _⟩ => ⟨S2x64x512x512, .f32⟩
  | .hbm, ⟨37, _⟩ => ⟨S2x64x512x512, .f32⟩
  | .hbm, ⟨38, _⟩ => ⟨S_, .f32⟩
  | .hbm, ⟨39, _⟩ => ⟨S2x64x512, .f32⟩
  | .hbm, ⟨40, _⟩ => ⟨S2x64x512x1, .f32⟩
  | .hbm, ⟨41, _⟩ => ⟨S2x64x512x512, .f32⟩
  | .hbm, ⟨42, _⟩ => ⟨S2x64x512x512, .f32⟩
  | .hbm, ⟨43, _⟩ => ⟨S2x64x512x512, .f32⟩
  | .hbm, ⟨44, _⟩ => ⟨S_, .i1⟩
  | .hbm, ⟨45, _⟩ => ⟨S512, .i1⟩
  | .hbm, ⟨46, _⟩ => ⟨S1x1x512x1, .i1⟩
  | .hbm, ⟨47, _⟩ => ⟨S_, .f32⟩
  | .hbm, ⟨48, _⟩ => ⟨S2x64x512, .f32⟩
  | .hbm, ⟨49, _⟩ => ⟨S2x64x512x1, .f32⟩
  | .hbm, ⟨50, _⟩ => ⟨S_, .f32⟩
  | .hbm, ⟨51, _⟩ => ⟨S_, .f32⟩
  | .hbm, ⟨52, _⟩ => ⟨S2x64x512x1, .i1⟩
  | .hbm, ⟨53, _⟩ => ⟨S2x64x512x1, .f32⟩
  | .hbm, ⟨54, _⟩ => ⟨S2x64x512x1, .f32⟩
  | .hbm, ⟨55, _⟩ => ⟨S2x64x512x512, .f32⟩
  | .hbm, ⟨56, _⟩ => ⟨S2x64x512x512, .f32⟩
  | .hbm, ⟨57, _⟩ => ⟨S1x1x512x1, .i1⟩
  | .hbm, ⟨58, _⟩ => ⟨S_, .f32⟩
  | .hbm, ⟨59, _⟩ => ⟨S_, .f32⟩
  | .hbm, ⟨60, _⟩ => ⟨S2x64x512x512, .i1⟩
  | .hbm, ⟨61, _⟩ => ⟨S2x64x512x512, .f32⟩
  | .hbm, ⟨62, _⟩ => ⟨S2x64x512x512, .f32⟩
  | .hbm, ⟨63, _⟩ => ⟨S2x64x64x512, .f32⟩
  | .hbm, ⟨64, _⟩ => ⟨S2x512x64x64, .f32⟩
  | .hbm, ⟨65, _⟩ => ⟨S2x512x4096, .f32⟩
  | .hbm, ⟨66, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.RingKernelIdeal.Topo.lean ====
/-
# The exchange's geography

Eight devices add up their partial results in three rounds of a pairwise exchange along the axes of a cube. A device's
place on the cube is its index with the lowest bit flipped when the next bit is set (a Gray code), and round `r` of
column chunk `j` swaps along cube axis `order j r`. There are eighteen copies a device, one for every batch, round and
column chunk; `num` is a copy's number in the order in which they are issued.

This module names the peers, the pieces of the two scratch buffers the copies read and write, and the semaphore cells,
and proves which sets the pieces are and that they are disjoint and cover their buffers.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pointwise
public import Idealize.ShloMosaic.Lib.Tactic

@[expose] public section

noncomputable section

namespace Cert.RingKernelIdeal

open Cert.KernelIdeal Cert.KernelIdeal.Gen
open Idealize.ShloMosaic
open Idealize.ShloMosaic.TcCoe

/-! ## Copies and peers -/

/-- A copy, by its batch, its round and its chunk of 256 columns. -/
abbrev Copy : Type := Fin 2 × Fin 3 × Fin 3

/-- A copy's number in the order a device issues them. -/
def num (n : Copy) : ℕ := 3 * (2 * n.2.1.val + n.1.val) + n.2.2.val

/-- The copy of a number. -/
def copyAt (i : ℕ) : Copy := (⟨i / 3 % 2, Nat.mod_lt _ (by decide)⟩, ⟨i / 6 % 3, Nat.mod_lt _ (by decide)⟩, ⟨i % 3, Nat.mod_lt _ (by decide)⟩)

theorem num_copyAt {i : ℕ} (h : i < 18) : num (copyAt i) = i := by
  have : ∀ k : Fin 18, num (copyAt k.val) = k.val := by decide
  exact this ⟨i, h⟩

/-- The cube axis along which chunk `j` is exchanged in round `r`. -/
def order (j r : Fin 3) : Fin 3 := ![![2, 1, 0], ![1, 0, 2], ![0, 2, 1]] j r

/-- A device's place on the cube, and back: the lowest bit flips when the next bit is set. -/
def gray (v : ℕ) : ℕ := v ^^^ ((v >>> 1) &&& 1)

theorem peer_lt (a : Fin 3) (c : Dev nD) : gray (gray c.val ^^^ (1 <<< a.val)) < nD := by revert a c; decide

/-- The device across axis `a` of the cube. -/
def peer (a : Fin 3) (c : Dev nD) : Dev nD := ⟨gray (gray c.val ^^^ (1 <<< a.val)), peer_lt a c⟩

theorem peer_peer (a : Fin 3) (c : Dev nD) : peer a (peer a c) = c := by revert a c; decide

/-- The axis of a copy. -/
def axis (n : Copy) : Fin 3 := order n.2.2 n.2.1

/-- The device a copy goes to, which is also the device whose copy of the same number comes back. -/
abbrev partner (n : Copy) (c : Dev nD) : Dev nD := peer (axis n) c

theorem partner_partner (n : Copy) (c : Dev nD) : partner n (partner n c) = c := peer_peer _ c

/-- Crossing one axis permutes the devices. -/
def across (a : Fin 3) : Dev nD ≃ Dev nD := ⟨peer a, peer a, peer_peer a, peer_peer a⟩

/-! ## The pieces of the two scratch buffers -/

/-- The buffer of partial sums, two batches of 512 rows and 768 columns. -/
abbrev sM : Memref sig .tc .vmem S2x512x768 .bf16 := Memref.whole cc0_scratch0
/-- The landing buffer, one slot for every batch, round and chunk. -/
abbrev rM : Memref sig .tc .vmem S2x3x3x512x256 .bf16 := Memref.whole cc0_scratch1

theorem chunk_inb (b : Fin 2) (j : Fin 3) : ∀ a, ![b.val, 0, 256 * j.val] a + S1x512x256.size a ≤ S2x512x768.size a := by
  revert b j; decide
theorem slab_inb (b : Fin 2) : ∀ a, ![b.val, 0, 0] a + S1x512x768.size a ≤ S2x512x768.size a := by
  revert b; decide
theorem slot_inb (b : Fin 2) (r j : Fin 3) : ∀ a, ![b.val, r.val, j.val, 0, 0] a + S1x1x1x512x256.size a ≤ S2x3x3x512x256.size a := by
  revert b r j; decide

/-- Chunk `j` of batch `b`, as a rectangle of the buffer of partial sums. -/
abbrev chunkRect (b : Fin 2) (j : Fin 3) : Rect S2x512x768 :=
  Rect.unit (s := S2x512x768) ![b.val, 0, 256 * j.val] S1x512x256.size (chunk_inb b j)
/-- All of batch `b`. -/
abbrev slabRect (b : Fin 2) : Rect S2x512x768 := Rect.unit (s := S2x512x768) ![b.val, 0, 0] S1x512x768.size (slab_inb b)
/-- The slot of one batch, round and chunk. -/
abbrev slotRect (b : Fin 2) (r j : Fin 3) : Rect S2x3x3x512x256 :=
  Rect.unit (s := S2x3x3x512x256) ![b.val, r.val, j.val, 0, 0] S1x1x1x512x256.size (slot_inb b r j)

/-- The chunk as a copy's source. -/
abbrev chunkM (b : Fin 2) (j : Fin 3) : Memref sig .tc .vmem S512x256 .bf16 :=
  (sM.slice (chunkRect b j) (fun _ => rfl)).squeeze S512x256 squeezes_S1x512x256_S512x256
/-- The slot as a copy's destination. -/
abbrev slotM (b : Fin 2) (r j : Fin 3) : Memref sig .tc .vmem S512x256 .bf16 :=
  (rM.slice (slotRect b r j) (fun _ => rfl)).squeeze S512x256 squeezes_S1x1x1x512x256_S512x256

theorem chunk_set (b : Fin 2) (j : Fin 3) : (chunkM b j).view.set = (chunkRect b j).set :=
  (Memref.set_view_squeeze _ _).trans (View.set_slice_whole _ _)
theorem slot_set (b : Fin 2) (r j : Fin 3) : (slotM b r j).view.set = (slotRect b r j).set :=
  (Memref.set_view_squeeze _ _).trans (View.set_slice_whole _ _)

/-! ## The cells -/

/-- The semaphore every device's three neighbours signal before anything is sent. -/
abbrev barS : Sem sig := (SemArray.scalar (sig.barrier 0 rfl) : Sems sig S_).sem
/-- The semaphore that counts copy `n` out. -/
def sendS (n : Copy) : DmaSem sig := ⟨6 + (9 * n.1.val + 3 * n.2.1.val + n.2.2.val), by revert n; decide⟩
/-- The semaphore that counts copy `n` in. -/
def recvS (n : Copy) : DmaSem sig := ⟨24 + (9 * n.1.val + 3 * n.2.1.val + n.2.2.val), by revert n; decide⟩

abbrev barCell (c : Dev nD) : GSem nD τ sig := ((c : Thread nD τ), .reg barS)
abbrev sendCell (n : Copy) (c : Dev nD) : GSem nD τ sig := ((c : Thread nD τ), .dma (sendS n))
abbrev recvCell (n : Copy) (c : Dev nD) : GSem nD τ sig := ((c : Thread nD τ), .dma (recvS n))

theorem sendS_injective : Function.Injective sendS := by decide
theorem recvS_injective : Function.Injective recvS := by decide
theorem sendS_ne_recvS (n n' : Copy) : sendS n ≠ recvS n' := by revert n n'; decide
theorem sendS_lt (n : Copy) : (sendS n).val < 24 := by revert n; decide
theorem le_recvS (n : Copy) : 24 ≤ (recvS n).val := by revert n; decide

/-- The bytes of one copy, as its semaphores count them. -/
abbrev N : ℕ := (slotM 0 0 0).view.dmaCredit
theorem N_pos : 0 < N := View.dmaCredit_pos _ (by decide)
theorem N_slot (b : Fin 2) (r j : Fin 3) : (slotM b r j).view.dmaCredit = N := rfl
theorem N_chunk (b : Fin 2) (j : Fin 3) : (chunkM b j).view.dmaCredit = N := rfl

/-! ## The pieces are apart, and make up the whole -/

theorem mem_chunk {b : Fin 2} {j : Fin 3} {x : S2x512x768.Idx} :
    x ∈ (chunkRect b j).set ↔ (x 0).val = b.val ∧ 256 * j.val ≤ (x 2).val ∧ (x 2).val < 256 * j.val + 256 := by
  rw [Rect.mem_set_unit]
  constructor
  · intro h
    have h0 := h 0
    have h2 := h 2
    simp at h0 h2
    omega
  · intro h a
    have h1 := (x 1).isLt
    fin_cases a <;> simp at h1 ⊢ <;> omega

theorem mem_slab {b : Fin 2} {x : S2x512x768.Idx} : x ∈ (slabRect b).set ↔ (x 0).val = b.val := by
  rw [Rect.mem_set_unit]
  constructor
  · intro h
    have h0 := h 0
    simp at h0
    omega
  · intro h a
    have h1 := (x 1).isLt
    have h2 := (x 2).isLt
    fin_cases a <;> simp at h1 h2 ⊢ <;> omega

theorem mem_slot {b : Fin 2} {r j : Fin 3} {x : S2x3x3x512x256.Idx} :
    x ∈ (slotRect b r j).set ↔ (x 0).val = b.val ∧ (x 1).val = r.val ∧ (x 2).val = j.val := by
  rw [Rect.mem_set_unit]
  constructor
  · intro h
    have h0 := h 0
    have h1 := h 1
    have h2 := h 2
    simp at h0 h1 h2
    omega
  · intro h a
    have h3 := (x 3).isLt
    have h4 := (x 4).isLt
    fin_cases a <;> simp at h3 h4 ⊢ <;> omega

theorem chunk_disjoint {b : Fin 2} {j j' : Fin 3} (h : j ≠ j') : Disjoint (chunkRect b j).set (chunkRect b j').set :=
  Finset.disjoint_left.mpr fun x hx hx' => h (Fin.ext (by have := mem_chunk.mp hx; have := mem_chunk.mp hx'; omega))

/-- The three chunks of a batch make it up. -/
theorem slab_chunks (b : Fin 2) : (slabRect b).set = Finset.univ.biUnion fun j => (chunkRect b j).set := by
  ext x
  rw [Finset.mem_biUnion, mem_slab]
  constructor
  · intro h
    have h2 : (x 2).val < 768 := (x 2).isLt
    exact ⟨⟨(x 2).val / 256, by omega⟩, Finset.mem_univ _, mem_chunk.mpr ⟨h, by dsimp only; omega, by dsimp only; omega⟩⟩
  · rintro ⟨j, -, hj⟩
    exact (mem_chunk.mp hj).1

/-- The two batches make up the buffer of partial sums. -/
theorem univ_slabs : (Finset.univ : Finset S2x512x768.Idx) = Finset.univ.biUnion fun b : Fin 2 => (slabRect b).set := by
  ext x
  rw [Finset.mem_biUnion]
  exact ⟨fun _ => ⟨⟨(x 0).val, (x 0).isLt⟩, Finset.mem_univ _, mem_slab.mpr rfl⟩, fun _ => Finset.mem_univ _⟩

theorem slab_disjoint {b b' : Fin 2} (h : b ≠ b') : Disjoint (slabRect b).set (slabRect b').set :=
  Finset.disjoint_left.mpr fun x hx hx' => h (Fin.ext (by have := mem_slab.mp hx; have := mem_slab.mp hx'; omega))

theorem slot_disjoint {n n' : Copy} (h : n ≠ n') : Disjoint (slotRect n.1 n.2.1 n.2.2).set (slotRect n'.1 n'.2.1 n'.2.2).set :=
  Finset.disjoint_left.mpr fun x hx hx' => h (by
    have h1 := mem_slot.mp hx
    have h2 := mem_slot.mp hx'
    exact Prod.ext (Fin.ext (h1.1.symm.trans h2.1)) (Prod.ext (Fin.ext (h1.2.1.symm.trans h2.2.1)) (Fin.ext (h1.2.2.symm.trans h2.2.2))))

/-- The eighteen slots make up the landing buffer. -/
theorem univ_slots : (Finset.univ : Finset S2x3x3x512x256.Idx) = Finset.univ.biUnion fun n : Copy => (slotRect n.1 n.2.1 n.2.2).set := by
  ext x
  rw [Finset.mem_biUnion]
  exact ⟨fun _ => ⟨(⟨(x 0).val, (x 0).isLt⟩, ⟨(x 1).val, (x 1).isLt⟩, ⟨(x 2).val, (x 2).isLt⟩), Finset.mem_univ _, mem_slot.mpr ⟨rfl, rfl, rfl⟩⟩,
    fun _ => Finset.mem_univ _⟩

/-! ## The devices the program computes -/

theorem dev_bar1 (c : Dev nD) : (⟨k0_dev1 c, k0_dev1_lt c⟩ : Dev nD) = peer 0 c := by revert c; decide
theorem dev_bar2 (c : Dev nD) : (⟨k0_dev2 c, k0_dev2_lt c⟩ : Dev nD) = peer 1 c := by revert c; decide
theorem dev_bar3 (c : Dev nD) : (⟨k0_dev3 c, k0_dev3_lt c⟩ : Dev nD) = peer 2 c := by revert c; decide
theorem dev_copy0 (c : Dev nD) : (⟨k0_dev4 c, k0_dev4_lt c⟩ : Dev nD) = partner (0, 0, 0) c := by revert c; decide
theorem dev_copy1 (c : Dev nD) : (⟨k0_dev5 c, k0_dev5_lt c⟩ : Dev nD) = partner (0, 0, 1) c := by revert c; decide
theorem dev_copy2 (c : Dev nD) : (⟨k0_dev6 c, k0_dev6_lt c⟩ : Dev nD) = partner (0, 0, 2) c := by revert c; decide
theorem dev_copy3 (c : Dev nD) : (⟨k0_dev7 c, k0_dev7_lt c⟩ : Dev nD) = partner (1, 0, 0) c := by revert c; decide
theorem dev_copy4 (c : Dev nD) : (⟨k0_dev8 c, k0_dev8_lt c⟩ : Dev nD) = partner (1, 0, 1) c := by revert c; decide
theorem dev_copy5 (c : Dev nD) : (⟨k0_dev9 c, k0_dev9_lt c⟩ : Dev nD) = partner (1, 0, 2) c := by revert c; decide
theorem dev_copy6 (c : Dev nD) : (⟨k0_dev10 c, k0_dev10_lt c⟩ : Dev nD) = partner (0, 1, 0) c := by revert c; decide
theorem dev_copy7 (c : Dev nD) : (⟨k0_dev11 c, k0_dev11_lt c⟩ : Dev nD) = partner (0, 1, 1) c := by revert c; decide
theorem dev_copy8 (c : Dev nD) : (⟨k0_dev12 c, k0_dev12_lt c⟩ : Dev nD) = partner (0, 1, 2) c := by revert c; decide
theorem dev_copy9 (c : Dev nD) : (⟨k0_dev13 c, k0_dev13_lt c⟩ : Dev nD) = partner (1, 1, 0) c := by revert c; decide
theorem dev_copy10 (c : Dev nD) : (⟨k0_dev14 c, k0_dev14_lt c⟩ : Dev nD) = partner (1, 1, 1) c := by revert c; decide
theorem dev_copy11 (c : Dev nD) : (⟨k0_dev15 c, k0_dev15_lt c⟩ : Dev nD) = partner (1, 1, 2) c := by revert c; decide
theorem dev_copy12 (c : Dev nD) : (⟨k0_dev16 c, k0_dev16_lt c⟩ : Dev nD) = partner (0, 2, 0) c := by revert c; decide
theorem dev_copy13 (c : Dev nD) : (⟨k0_dev17 c, k0_dev17_lt c⟩ : Dev nD) = partner (0, 2, 1) c := by revert c; decide
theorem dev_copy14 (c : Dev nD) : (⟨k0_dev18 c, k0_dev18_lt c⟩ : Dev nD) = partner (0, 2, 2) c := by revert c; decide
theorem dev_copy15 (c : Dev nD) : (⟨k0_dev19 c, k0_dev19_lt c⟩ : Dev nD) = partner (1, 2, 0) c := by revert c; decide
theorem dev_copy16 (c : Dev nD) : (⟨k0_dev20 c, k0_dev20_lt c⟩ : Dev nD) = partner (1, 2, 1) c := by revert c; decide
theorem dev_copy17 (c : Dev nD) : (⟨k0_dev21 c, k0_dev21_lt c⟩ : Dev nD) = partner (1, 2, 2) c := by revert c; decide

end Cert.RingKernelIdeal

end
-- ==== Proof.RingKernelIdeal.Vals.lean ====
/-
# What the buffers hold

The values that pass through the kernel, as functions of the blocks each device is given: the partial result a device
computes for a batch (`partial0`), the partial sums after each round (`Sbuf`), what lands in the slots (`Rbuf`), and the
result (`outVal`). Then the facts that tie them to the memory operations: what a chunk or slot reads, what the update's
payload is, and that reading a chunk on one side is reading the slot on the other.
-/
module

public import proofs.«01_k».proof.Proof.RingKernelIdeal.Topo
public import Idealize.ShloMosaic.Lib.ValueLayout

@[expose] public section

noncomputable section

namespace Cert.RingKernelIdeal

open Cert.KernelIdeal Cert.KernelIdeal.Gen
open Idealize.ShloMosaic
open Idealize.ShloMosaic.TcCoe

variable {F : FTy → Type} [FloatOps F]

/-- The blocks one device is given. -/
structure Ins (F : FTy → Type) where
  /-- The tokens, two batches of 512 rows. -/
  x : (cc0_stg0_0 : Ref sig .tc).ty.Contents (Elt F)
  /-- The query weights. -/
  wq : (cc0_stg1_0 : Ref sig .tc).ty.Contents (Elt F)
  /-- The keys of this device's eight heads. -/
  k : (cc0_stg2_0 : Ref sig .tc).ty.Contents (Elt F)
  /-- The values of this device's eight heads. -/
  v : (cc0_stg3_0 : Ref sig .tc).ty.Contents (Elt F)
  /-- The output weights. -/
  wo : (cc0_stg4_0 : Ref sig .tc).ty.Contents (Elt F)

abbrev xM : Memref sig .tc .vmem S2x512x768 .f32 := Memref.whole cc0_stg0_0
abbrev wqM : Memref sig .tc .vmem S768x4096 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S4096x768 .f32 := Memref.whole cc0_stg4_0
abbrev oM : Memref sig .tc .vmem S2x512x768 .f32 := Memref.whole cc0_stg5_0

/-! ## One device's partial result -/

theorem head_inb (b : Fin 2) (h : Fin 8) : ∀ a, ![b.val, 0, h.val, 0] a + S1x512x1x64.size a ≤ S2x512x8x64.size a := by
  revert b h; decide
theorem head_slice (h : Fin 8) : S512x512.Slices ![0, 64 * h.val] S512x64 := by revert h; decide

/-- The five blocks a head's computation loads. -/
def xAt (i : Ins F) (b : Fin 2) : Vec F S1x512x768 .f32 :=
  xM.view.readAt (Elt F) (Rect.unit (s := S2x512x768) ![b.val, 0, 0] S1x512x768.size (slab_inb b)).toLoadRect i.x
def wqAt (i : Ins F) (c : Dev nD) : Vec F S768x512 .f32 :=
  wqM.view.readAt (Elt F) (Rect.unit (s := S768x4096) (k0_off1 c) S768x512.size (k0_off1_inb c)).toLoadRect i.wq
def kAt (i : Ins F) (b : Fin 2) (h : Fin 8) : Vec F S1x512x1x64 .f32 :=
  kM.view.readAt (Elt F) (Rect.unit (s := S2x512x8x64) ![b.val, 0, h.val, 0] S1x512x1x64.size (head_inb b h)).toLoadRect i.k
def vAt (i : Ins F) (b : Fin 2) (h : Fin 8) : Vec F S1x512x1x64 .f32 :=
  vM.view.readAt (Elt F) (Rect.unit (s := S2x512x8x64) ![b.val, 0, h.val, 0] S1x512x1x64.size (head_inb b h)).toLoadRect i.v
def woAt (i : Ins F) (c : Dev nD) (h : Fin 8) : Vec F S64x768 .f32 :=
  woM.view.readAt (Elt F) (Rect.unit (s := S4096x768) (k0_off2 c (BitVec.ofNat 32 (64 * h.val))) S64x768.size (k0_off2_inb c h)).toLoadRect i.wo

/-- The scaled queries of a batch, all eight heads side by side. -/
def queries (i : Ins F) (c : Dev nD) (b : Fin 2) : FVec F S512x512 .f32 := k0_pay4 (k0_pay3 (wqAt i c)) (xAt i b)

/-- The exponentials of one head's masked scores. -/
def expo (i : Ins F) (c : Dev nD) (b : Fin 2) (h : Fin 8) : FVec F S512x512 .f32 :=
  exp (select k0_pay2
    (matmul dot_S512x64_S512x64_S512x512_1_1_0_0_n_n none (extractStridedSlice S512x64 ![0, 64 * h.val] (queries i c b) (head_slice h))
      (shapeCast S512x64 (kAt i b h) shapeCasts_S1x512x1x64_S512x64) (constant S512x512 .f32 0x00000000#32))
    (broadcast S512x512 (Scalar.ofBits .f32 0xCE6E6B28#32)))

/-- One head's contribution to the partial result. -/
def headOut (i : Ins F) (c : Dev nD) (b : Fin 2) (h : Fin 8) : FVec F S512x768 .f32 :=
  matmul dot_S512x64_S64x768_S512x768_1_0_0_1_n_n none
    (divf
      (matmul dot_S512x512_S512x64_S512x64_1_0_0_1_n_n none (expo i c b h) (shapeCast S512x64 (vAt i b h) shapeCasts_S1x512x1x64_S512x64)
        (constant S512x64 .f32 0x00000000#32))
      (broadcastTo S512x64
        (shapeCast S512x1 (multiReduction .add [1] S512 (expo i c b h) 0x00000000#32 reduces_S512x512_S512 (.inl rfl) rfl) shapeCasts_S512_S512x1)
        broadcasts_S512x1_S512x64))
    (shapeCast S64x768 (woAt i c h) shapeCasts_S64x768_S64x768) (constant S512x768 .f32 0x00000000#32)

/-- The eight heads added up. -/
def headSum (i : Ins F) (c : Dev nD) (b : Fin 2) : FVec F S512x768 .f32 :=
  addf (addf (addf (addf (addf (addf (addf (addf k0_pay5 (headOut i c b 0)) (headOut i c b 1)) (headOut i c b 2)) (headOut i c b 3))
    (headOut i c b 4)) (headOut i c b 5)) (headOut i c b 6)) (headOut i c b 7)

/-- What device `c` stores for batch `b` before the exchange. -/
def partial0 (i : Ins F) (c : Dev nD) (b : Fin 2) : Vec F S1x512x768 .bf16 :=
  shapeCast S1x512x768 (truncf .bf16 (headSum i c b) bitsLt_bf16_f32) shapeCasts_S512x768_S1x512x768

/-! ## The exchange -/

variable (I : Dev nD → Ins F)

/-- The buffer of partial sums of each device after `t` rounds. -/
def Sbuf : ℕ → Dev nD → FVec F S2x512x768 .bf16
  | 0, c => fun x => partial0 (I c) c ⟨(x 0).val, (x 0).isLt⟩ (ix3 0 (x 1) (x 2))
  | t + 1, c => addf (Sbuf t c) fun x => Sbuf t (peer (order ⟨(x 2).val / 256, by have : (x 2).val < 768 := (x 2).isLt; omega⟩ (Fin.ofNat 3 t)) c) x

/-- What lands in each slot of a device: the partner's chunk before that round. -/
def Rbuf (c : Dev nD) : FVec F S2x3x3x512x256 .bf16 := fun x =>
  Sbuf I (x 1).val (peer (order ⟨(x 2).val, (x 2).isLt⟩ ⟨(x 1).val, (x 1).isLt⟩) c)
    (ix3 (x 0) (x 3) ⟨256 * (x 2).val + (x 4).val, by
      have h2 : (x 2).val < 3 := (x 2).isLt
      have h4 : (x 4).val < 256 := (x 4).isLt
      show _ < 768
      omega⟩)

/-- The result: the sums after three rounds, widened. -/
def outVal (c : Dev nD) : FVec F S2x512x768 .f32 := extf .f32 (Sbuf I 3 c) bitsLt_bf16_f32

/-! ## What the pieces read -/

/-- A chunk of a buffer of partial sums, as a load reads it. -/
abbrev chunkVal (b : Fin 2) (j : Fin 3) (f : FVec F S2x512x768 .bf16) : Vec F S1x512x256 .bf16 :=
  sM.view.readAt (Elt F) (chunkRect b j).toLoadRect f
/-- A slot of a landing buffer, as a load reads it. -/
abbrev slotVal (b : Fin 2) (r j : Fin 3) (f : FVec F S2x3x3x512x256 .bf16) : Vec F S1x1x1x512x256 .bf16 :=
  rM.view.readAt (Elt F) (slotRect b r j).toLoadRect f

omit [FloatOps F] in
theorem chunkVal_apply (b : Fin 2) (j : Fin 3) (f : FVec F S2x512x768 .bf16) (u : Fin 1) (q : Fin 512) (e : Fin 256) :
    chunkVal b j f (ix3 u q e) = f (ix3 b q ⟨256 * j.val + e.val, by have := j.isLt; have := e.isLt; omega⟩) := by
  show f ((chunkRect b j).emb (ix3 u q e)) = _
  congr 1
  funext a
  have hu : u.val = 0 := by have := u.isLt; omega
  fin_cases a <;> apply Fin.ext <;> simp [ix3, hu]

omit [FloatOps F] in
theorem slotVal_apply (b : Fin 2) (r j : Fin 3) (f : FVec F S2x3x3x512x256 .bf16) (u u' u'' : Fin 1) (q : Fin 512) (e : Fin 256) :
    slotVal b r j f (ix5 u u' u'' q e) = f (ix5 b r j q e) := by
  show f ((slotRect b r j).emb (ix5 u u' u'' q e)) = _
  congr 1
  funext a
  have hu : u.val = 0 := by have := u.isLt; omega
  have hu' : u'.val = 0 := by have := u'.isLt; omega
  have hu'' : u''.val = 0 := by have := u''.isLt; omega
  fin_cases a <;> apply Fin.ext <;> simp [ix5, hu, hu', hu'']

/-- The update of one chunk: what it held plus what landed. -/
def updVal (v : Vec F S1x512x256 .bf16) (w : Vec F S1x1x1x512x256 .bf16) : Vec F S1x512x256 .bf16 :=
  shapeCast S1x512x256 (addf (shapeCast S512x256 v shapeCasts_S1x512x256_S512x256) (shapeCast S512x256 w shapeCasts_S1x1x1x512x256_S512x256))
    shapeCasts_S512x256_S1x512x256

theorem updVal_apply (v : Vec F S1x512x256 .bf16) (w : Vec F S1x1x1x512x256 .bf16) (u : Fin 1) (q : Fin 512) (e : Fin 256) :
    updVal v w (ix3 u q e) = FloatOps.addf (v (ix3 0 q e)) (w (ix5 0 0 0 q e)) := by
  unfold updVal
  pointwise

/-- What a chunk holds after round `r`: what it held plus what its partner held. -/
theorem Sbuf_succ (r : Fin 3) (c : Dev nD) (b : Fin 2) (j : Fin 3) (q : Fin 512) (e : Fin 256) (h : 256 * j.val + e.val < 768) :
    Sbuf I (r.val + 1) c (ix3 b q ⟨256 * j.val + e.val, h⟩)
      = FloatOps.addf (Sbuf I r.val c (ix3 b q ⟨256 * j.val + e.val, h⟩)) (Sbuf I r.val (peer (order j r) c) (ix3 b q ⟨256 * j.val + e.val, h⟩)) := by
  have hj : (⟨(256 * j.val + e.val) / 256, by omega⟩ : Fin 3) = j := Fin.ext (by have := e.isLt; dsimp only; omega)
  have hr : Fin.ofNat 3 r.val = r := by revert r; decide
  show FloatOps.addf _ (Sbuf I r.val (peer (order ⟨(256 * j.val + e.val) / 256, _⟩ (Fin.ofNat 3 r.val)) c) _) = _
  rw [hj, hr]

/-- The chunk a device sends is what the slot on the other side is to hold. -/
theorem chunk_read_land (b : Fin 2) (r j : Fin 3) (c : Dev nD) :
    (chunkM b j).view.read (Elt F) (Sbuf I r.val c) = (slotM b r j).view.read (Elt F) (Rbuf I (peer (order j r) c)) := by
  refine (Memref.read_squeeze_slice (Val := Elt F) sM (chunkRect b j) (fun _ => rfl) squeezes_S1x512x256_S512x256 shapeCasts_S1x512x256_S512x256 (Sbuf I r.val c)).trans
    (Eq.trans ?_ (Memref.read_squeeze_slice (Val := Elt F) rM (slotRect b r j) (fun _ => rfl) squeezes_S1x1x1x512x256_S512x256
      shapeCasts_S1x1x1x512x256_S512x256 (Rbuf I (peer (order j r) c))).symm)
  funext x
  rw [eq_ix2 x]
  revert x
  suffices H : ∀ (q : Fin 512) (e : Fin 256),
      (shapeCast S512x256 (chunkVal b j (Sbuf I r.val c)) shapeCasts_S1x512x256_S512x256) (ix2 q e)
        = (shapeCast S512x256 (slotVal b r j (Rbuf I (peer (order j r) c))) shapeCasts_S1x1x1x512x256_S512x256) (ix2 q e) from fun x => H _ _
  intro q e
  have h1 : (shapeCast S512x256 (chunkVal b j (Sbuf I r.val c)) shapeCasts_S1x512x256_S512x256) (ix2 q e) = chunkVal b j (Sbuf I r.val c) (ix3 0 q e) := by
    pointwise
  have h2 : (shapeCast S512x256 (slotVal b r j (Rbuf I (peer (order j r) c))) shapeCasts_S1x1x1x512x256_S512x256) (ix2 q e)
      = slotVal b r j (Rbuf I (peer (order j r) c)) (ix5 0 0 0 q e) := by
    pointwise
  refine h1.trans (Eq.trans ?_ h2.symm)
  rw [chunkVal_apply, slotVal_apply]
  show _ = Sbuf I r.val (peer (order j r) (peer (order j r) c)) (ix3 b q ⟨256 * j.val + e.val, _⟩)
  rw [peer_peer]

/-- Writing through a view what the view reads of `g` leaves the view's elements at `g`'s. -/
theorem write_agrees {κ : Kind} {sp : Space} {s : Shape} {e : EltTy} (v : View sig κ sp s e) (f g : v.ty.Contents (Elt F)) (w : s.Idx → Elt F e)
    (h : w = v.read (Elt F) g) : ∀ i ∈ v.set, v.write (Elt F) f w Finset.univ i = g i := by
  subst h
  rw [View.write_read_eq_piecewise]
  intro i hi
  exact Finset.piecewise_eq_of_mem _ _ _ hi

/-- What a copy leaves in its slot. -/
theorem slot_landed (b : Fin 2) (r j : Fin 3) (c : Dev nD) (f : FVec F S2x3x3x512x256 .bf16) :
    ∀ i ∈ (slotM b r j).view.set,
      (slotM b r j).view.write (Elt F) f ((chunkM b j).view.read (Elt F) (Sbuf I r.val c)) Finset.univ i = Rbuf I (peer (order j r) c) i :=
  write_agrees (slotM b r j).view f (Rbuf I (peer (order j r) c)) _ (chunk_read_land I b r j c)

/-- What an update leaves in its chunk. -/
theorem chunk_updated (b : Fin 2) (r j : Fin 3) (c : Dev nD) (f : FVec F S2x512x768 .bf16) :
    ∀ i ∈ (chunkRect b j).set,
      (sM.access (chunkRect b j)).write (Elt F) f (updVal (chunkVal b j (Sbuf I r.val c)) (slotVal b r j (Rbuf I c))) Finset.univ i
        = Sbuf I (r.val + 1) c i := by
  rw [← View.set_slice_whole cc0_scratch0 (chunkRect b j)]
  refine write_agrees (sM.access (chunkRect b j)) f (Sbuf I (r.val + 1) c) _ (funext fun x => ?_)
  rw [eq_ix3 x]
  suffices H : ∀ (u : Fin 1) (q : Fin 512) (e : Fin 256),
      updVal (chunkVal b j (Sbuf I r.val c)) (slotVal b r j (Rbuf I c)) (ix3 u q e) = chunkVal b j (Sbuf I (r.val + 1) c) (ix3 u q e) from H _ _ _
  intro u q e
  refine (updVal_apply _ _ u q e).trans (Eq.trans ?_ (chunkVal_apply b j (Sbuf I (r.val + 1) c) u q e).symm)
  rw [chunkVal_apply, slotVal_apply, Sbuf_succ]
  rfl

/-- What the first store of a batch leaves. -/
theorem slab_stored (b : Fin 2) (c : Dev nD) (f : FVec F S2x512x768 .bf16) :
    ∀ i ∈ (slabRect b).set,
      (sM.access (slabRect b)).write (Elt F) f (partial0 (I c) c b) Finset.univ i = Sbuf I 0 c i := by
  rw [← View.set_slice_whole cc0_scratch0 (slabRect b)]
  refine write_agrees (sM.access (slabRect b)) f (Sbuf I 0 c) _ (funext fun x => ?_)
  rw [eq_ix3 x]
  suffices H : ∀ (u : Fin 1) (q : Fin 512) (e : Fin 768), partial0 (I c) c b (ix3 u q e) = Sbuf I 0 c ((slabRect b).emb (ix3 u q e)) from H _ _ _
  intro u q e
  have hu : u = 0 := Subsingleton.elim _ _
  subst hu
  have : (slabRect b).emb (ix3 0 q e) = ix3 b q e := by
    funext a
    fin_cases a <;> apply Fin.ext <;> simp [ix3]
  rw [this]
  rfl

/-- A batch of the result, from the sums after the last round. -/
def outPay (v : Vec F S1x512x768 .bf16) : Vec F S1x512x768 .f32 :=
  shapeCast S1x512x768 (extf .f32 (shapeCast S512x768 v shapeCasts_S1x512x768_S512x768) bitsLt_bf16_f32) shapeCasts_S512x768_S1x512x768

/-- What the last store of a batch leaves in the result. -/
theorem out_stored (b : Fin 2) (c : Dev nD) (f : FVec F S2x512x768 .f32) :
    ∀ i ∈ (slabRect b).set,
      (oM.access (slabRect b)).write (Elt F) f (outPay (sM.view.readAt (Elt F) (slabRect b).toLoadRect (Sbuf I 3 c))) Finset.univ i = outVal I c i := by
  rw [← View.set_slice_whole cc0_stg5_0 (slabRect b)]
  refine write_agrees (oM.access (slabRect b)) f (outVal I c) _ (funext fun x => ?_)
  rw [eq_ix3 x]
  suffices H : ∀ (u : Fin 1) (q : Fin 512) (e : Fin 768), outPay (sM.view.readAt (Elt F) (slabRect b).toLoadRect (Sbuf I 3 c)) (ix3 u q e)
      = outVal I c ((slabRect b).emb (ix3 u q e)) from H _ _ _
  intro u q e
  have hu : u = 0 := Subsingleton.elim _ _
  subst hu
  unfold outPay
  refine Eq.trans (b := FloatOps.extf .f32 bitsLt_bf16_f32 (sM.view.readAt (Elt F) (slabRect b).toLoadRect (Sbuf I 3 c) (ix3 0 q e))) ?_ rfl
  pointwise

/-- The two last stores leave the whole result. -/
theorem out_whole (c : Dev nD) (f : FVec F S2x512x768 .f32) :
    (oM.access (slabRect 1)).write (Elt F)
      ((oM.access (slabRect 0)).write (Elt F) f (outPay (sM.view.readAt (Elt F) (slabRect 0).toLoadRect (Sbuf I 3 c))) Finset.univ)
      (outPay (sM.view.readAt (Elt F) (slabRect 1).toLoadRect (Sbuf I 3 c))) Finset.univ = outVal I c := by
  funext i
  by_cases h : (i 0).val = 1
  · exact out_stored I 1 c _ i (mem_slab.mpr h)
  · have h0 : i ∈ (slabRect 0).set := mem_slab.mpr (by have h2 : (i 0).val < 2 := (i 0).isLt; show (i 0).val = 0; omega)
    refine (View.write_of_not_mem (v := oM.access (slabRect 1)) (Val := Elt F) _ _ _ (fun hm => h ?_)).trans (out_stored I 0 c f i h0)
    rw [View.setOn_univ] at hm
    exact mem_slab.mp ((View.set_slice_whole cc0_stg5_0 (slabRect 1)) ▸ hm)

end Cert.RingKernelIdeal

end
-- ==== Proof.RingKernelIdeal.Sched.lean ====
/-
# The exchange's schedule

Every device has one barrier cell and, for every copy, a cell counting it out and a cell counting it in: `Cell` names
them. Each cell has one round. A barrier cell's round has three duties, one for each cube axis, paid by the neighbour
across it, who hands over the slots of its landing buffer that the copies along this axis will write. A send cell hands
the chunk back to its device as it was, and a receive cell hands over the slot with the partner's chunk in it.

`D c k` is what a device still owes when `k` of its eighteen copies are to be issued. A device may wait for copy `n` to
land while it owes only copies issued later, since the levels `lv` rise with a copy's number.
-/
module

public import proofs.«01_k».proof.Proof.RingKernelIdeal.Vals

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the exchange's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells by name -/

/-- The cells of one device: the barrier, then one to count each copy out, then one to count each copy in. -/
abbrev Cell : Type := Unit ⊕ Copy ⊕ Copy

instance : DecidableEq Cell := fun a b => instDecidableEqSum a b

abbrev bar : Cell := .inl ()
abbrev snd (n : Copy) : Cell := .inr (.inl n)
abbrev rcv (n : Copy) : Cell := .inr (.inr n)

/-- The semaphore of a cell. -/
def csem : Cell → SemLoc sig
  | .inl _ => .reg barS
  | .inr (.inl n) => .dma (sendS n)
  | .inr (.inr n) => .dma (recvS n)

abbrev kcell (ck : Dev nD × Cell) : GSem nD τ sig := ((ck.1 : Thread nD τ), csem ck.2)

theorem csem_injective : Function.Injective csem := by
  rintro (u | n | n) (u' | n' | n') h
  · rfl
  · cases h
  · cases h
  · cases h
  · exact congrArg snd (sendS_injective (SemLoc.dma.inj h))
  · exact absurd (SemLoc.dma.inj h) (sendS_ne_recvS n n')
  · cases h
  · exact absurd (SemLoc.dma.inj h).symm (sendS_ne_recvS n' n)
  · exact congrArg rcv (recvS_injective (SemLoc.dma.inj h))

/-! ## The pieces held -/

/-- Chunk `j` of batch `b` of device `c`'s partial sums, holding `f` there. -/
def chunkPts (c : Dev nD) (b : Fin 2) (j : Fin 3) (f : FVec F S2x512x768 .bf16) : sProp 𝕄 :=
  (chunkM b j).view.loc (c : Thread nD τ) ↦[(chunkM b j).view.set]{fullShare} f
/-- The slot of copy `n` in device `c`'s landing buffer, holding `f` there. -/
def slotPts (n : Copy) (c : Dev nD) (f : FVec F S2x3x3x512x256 .bf16) : sProp 𝕄 :=
  (slotM n.1 n.2.1 n.2.2).view.loc (c : Thread nD τ) ↦[(slotM n.1 n.2.1 n.2.2).view.set]{fullShare} f

omit [FloatOps F] in
instance chunkPts_storable (c : Dev nD) (b j) (f) : BI.Storable (upEmb : UEmb _ 𝕄) (chunkPts (F := F) c b j f) := by
  unfold chunkPts; infer_instance
omit [FloatOps F] in
instance slotPts_storable (n : Copy) (c : Dev nD) (f) : BI.Storable (upEmb : UEmb _ 𝕄) (slotPts (F := F) n c f) := by
  unfold slotPts; infer_instance

/-- The copies along one axis. -/
def along (a : Fin 3) : Finset Copy := Finset.univ.filter fun n => axis n = a

/-- The slots, with whatever they hold, that device `c` lends to the copies along axis `a`. -/
def lent (a : Fin 3) (c : Dev nD) : sProp 𝕄 := bigSep (along a) fun n => iprop(∃ f, slotPts n c f)

omit [FloatOps F] in
instance lent_storable (a : Fin 3) (c : Dev nD) : BI.Storable (upEmb : UEmb _ 𝕄) (lent (F := F) a c) := by
  unfold lent; infer_instance

variable (I : Dev nD → Ins F)

/-- What a cell's duty hands to the cell's device. -/
def pay (c : Dev nD) : Cell → Fin 3 → sProp 𝕄
  | .inl _, a => lent a (peer a c)
  | .inr (.inl n), _ => chunkPts c n.1 n.2.2 (Sbuf I n.2.1.val c)
  | .inr (.inr n), _ => slotPts n c (Rbuf I c)

/-- The duties of a cell. -/
def dutiesOf : Cell → Finset (Fin 3)
  | .inl _ => Finset.univ
  | .inr _ => {0}

open Classical in
/-- The schedule: one round a cell. -/
def Rd : Rounds.Schedule (GSem nD τ sig) (Fin 3) 𝕄 where
  duties g r := if h : (r = 0 ∧ g.1.2 = .tc) ∧ ∃ k, csem k = g.2 then dutiesOf h.2.choose else ∅
  unitless _ := False
  amount g _ _ := if g.2 = .reg barS then 1 else N
  payload g _ d := if h : ∃ k, csem k = g.2 then pay I g.1.1 h.choose d else iprop(emp)
  amount_pos g _ _ _ := by
    by_cases h : g.2 = .reg barS
    · rw [if_pos h]; exact Nat.one_pos
    · rw [if_neg h]; exact N_pos

instance pay_storable (c : Dev nD) (k : Cell) (d : Fin 3) : BI.Storable (upEmb : UEmb _ 𝕄) (pay (F := F) I c k d) := by
  rcases k with u | n | n <;> unfold pay <;> infer_instance

instance Rd_payload_storable (g : GSem nD τ sig) (r : ℕ) (d : Fin 3) :
    BI.Storable (upEmb : UEmb _ 𝕄) ((Rd (F := F) I).payload g r d) := by
  dsimp only [Rd]
  split <;> infer_instance

section Tables
variable (c : Dev nD) (k : Cell)

theorem choose_cell (h : ∃ k', csem k' = csem k) : h.choose = k := csem_injective h.choose_spec

theorem duties_cell : (Rd (F := F) I).duties (kcell (c, k)) 0 = dutiesOf k := by
  have h : ∃ k', csem k' = (kcell (c, k)).2 := ⟨k, rfl⟩
  dsimp only [Rd]
  rw [dif_pos ⟨⟨rfl, rfl⟩, h⟩]
  exact congrArg dutiesOf (choose_cell k h)

theorem duties_later (g : GSem nD τ sig) : ∀ r, 1 ≤ r → (Rd (F := F) I).duties g r = ∅ :=
  fun r hr => by dsimp only [Rd]; exact dif_neg fun h => by omega

theorem payload_cell (d : Fin 3) : (Rd (F := F) I).payload (kcell (c, k)) 0 d = pay I c k d := by
  have h : ∃ k', csem k' = (kcell (c, k)).2 := ⟨k, rfl⟩
  dsimp only [Rd]
  rw [dif_pos h]
  exact congrArg (fun k => pay I c k d) (choose_cell k h)

theorem amount_bar (d : Fin 3) : (Rd (F := F) I).amount (barCell c) 0 d = 1 := by dsimp only [Rd]; exact if_pos rfl
theorem amount_send (n : Copy) (d : Fin 3) : (Rd (F := F) I).amount (sendCell n c) 0 d = N := by
  dsimp only [Rd]; exact if_neg (fun h => by cases h)
theorem amount_recv (n : Copy) (d : Fin 3) : (Rd (F := F) I).amount (recvCell n c) 0 d = N := by
  dsimp only [Rd]; exact if_neg (fun h => by cases h)

theorem expect_bar : (Rd (F := F) I).expect (barCell c) 0 = 3 := by
  unfold Schedule.expect Schedule.amountOf
  rw [show (Rd (F := F) I).duties (barCell c) 0 = Finset.univ from duties_cell I c bar, Finset.sum_congr rfl fun d _ => amount_bar I c d]
  rfl
theorem expect_send (n : Copy) : (Rd (F := F) I).expect (sendCell n c) 0 = N := by
  unfold Schedule.expect Schedule.amountOf
  rw [show (Rd (F := F) I).duties (sendCell n c) 0 = {0} from duties_cell I c (snd n), Finset.sum_singleton, amount_send]
theorem expect_recv (n : Copy) : (Rd (F := F) I).expect (recvCell n c) 0 = N := by
  unfold Schedule.expect Schedule.amountOf
  rw [show (Rd (F := F) I).duties (recvCell n c) 0 = {0} from duties_cell I c (rcv n), Finset.sum_singleton, amount_recv]

/-- What waiting out a cell's round brings. -/
theorem rest_cell : bigSep ((Rd (F := F) I).duties (kcell (c, k)) 0 \ ∅) (fun d => (Rd (F := F) I).payload (kcell (c, k)) 0 d)
    = bigSep (dutiesOf k) (fun d => pay I c k d) := by
  rw [Finset.sdiff_empty, duties_cell]
  exact bigSep_congr fun d _ => payload_cell I c k d

theorem rest_bar : bigSep ((Rd (F := F) I).duties (barCell c) 0 \ ∅) (fun d => (Rd (F := F) I).payload (barCell c) 0 d)
    = bigSep Finset.univ (fun a => (lent a (peer a c) : sProp 𝕄)) := rest_cell I c bar
theorem rest_send (n : Copy) : bigSep ((Rd (F := F) I).duties (sendCell n c) 0 \ ∅) (fun d => (Rd (F := F) I).payload (sendCell n c) 0 d)
    = chunkPts c n.1 n.2.2 (Sbuf I n.2.1.val c) := (rest_cell I c (snd n)).trans bigSep_singleton
theorem rest_recv (n : Copy) : bigSep ((Rd (F := F) I).duties (recvCell n c) 0 \ ∅) (fun d => (Rd (F := F) I).payload (recvCell n c) 0 d)
    = slotPts n c (Rbuf I c) := (rest_cell I c (rcv n)).trans bigSep_singleton

end Tables

theorem along_cover : (Finset.univ : Finset Copy) = Finset.univ.biUnion along := by
  ext n; simp [along]
theorem along_disjoint : ∀ a ∈ (Finset.univ : Finset (Fin 3)), ∀ a' ∈ (Finset.univ : Finset (Fin 3)), a ≠ a' → Disjoint (along a) (along a') :=
  fun a _ a' _ hne => Finset.disjoint_filter.mpr fun n _ hn hn' => hne (hn.symm.trans hn')

omit [FloatOps F] in
/-- The slots lent by the three neighbours are, copy by copy, the slots of the partners. -/
theorem lent_all (c : Dev nD) :
    bigSep Finset.univ (fun a => (lent a (peer a c) : sProp 𝕄)) = bigSep Finset.univ fun n : Copy => iprop(∃ f, slotPts (F := F) n (partner n c) f) := by
  rw [along_cover, bigSep_biUnion_eq Finset.univ along _ along_disjoint]
  refine bigSep_congr fun a _ => bigSep_congr fun n hn => ?_
  rw [show partner n c = peer a c from congrArg (fun a => peer a c) (Finset.mem_filter.mp hn).2]

omit [FloatOps F] in
/-- A device's own slots, grouped by the axis of their copies. -/
theorem lent_own (c : Dev nD) :
    bigSep Finset.univ (fun a => (lent a c : sProp 𝕄)) = bigSep Finset.univ fun n : Copy => iprop(∃ f, slotPts (F := F) n c f) := by
  rw [along_cover, bigSep_biUnion_eq Finset.univ along _ along_disjoint]
  rfl

/-! ## Debts and levels -/

/-- What is owed for the last `k` copies. -/
def D (c : Dev nD) : ℕ → CellTallies nD τ sig Unit
  | 0 => 0
  | k + 1 => D c k + tallyAt (recvCell (copyAt (17 - k)) (partner (copyAt (17 - k)) c)) () N

/-- What is owed when the first `k` signals are still to come, the axes signalled in the order 0, 1, 2. -/
def O₂ (c : Dev nD) : CellTallies nD τ sig Unit := D c 18 + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅

/-- The levels: a barrier cell at 1, copy `n`'s receive cell at `2 + num n`, the others at 0. -/
def lv (g : GSem nD τ sig) (_ : Unit) : ℕ :=
  match g.2 with
  | .reg _ => 1
  | .dma q => if 24 ≤ q.val then 2 + (3 * (2 * ((q.val - 24) / 3 % 3) + (q.val - 24) / 9) + (q.val - 24) % 3) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (n : Copy) (c : Dev nD) (u : Unit) : lv (recvCell n c) u = 2 + num n := by
  revert n
  show ∀ n : Copy, (if 24 ≤ (recvS n).val then 2 + (3 * (2 * (((recvS n).val - 24) / 3 % 3) + ((recvS n).val - 24) / 9) + ((recvS n).val - 24) % 3) else 0) = 2 + num n
  decide
theorem lv_low (c : Dev nD) (q : DmaSem sig) (h : q.val < 24) (u : Unit) : lv ((c : Thread nD τ), .dma q) u = 0 :=
  if_neg (by omega)

theorem tally_pos {g g' : GSem nD τ sig} {u u' : Unit} {k : ℕ} (h : 0 < tallyAt g u k g' u') : g' = g := by
  by_contra hn
  rw [tallyAt_apply, if_neg (fun h' => hn h'.1)] at h
  exact Nat.lt_irrefl 0 h

/-- Whatever is owed for the last `k` copies is owed to the receive cell of one of them. -/
theorem D_pos {c : Dev nD} {g : GSem nD τ sig} {u : Unit} : ∀ k, k ≤ 18 → 0 < D c k g u → ∃ i d, i < 18 ∧ 18 ≤ i + k ∧ g = recvCell (copyAt i) d
  | 0, _, h => absurd h (Nat.lt_irrefl 0)
  | k + 1, hk, h => by
    unfold D at h
    rw [Pi.add_apply, Finsupp.add_apply] at h
    rcases Nat.eq_zero_or_pos (D c k g u) with h0 | h0
    · rw [h0, Nat.zero_add] at h
      exact ⟨17 - k, _, by omega, by omega, tally_pos h⟩
    · obtain ⟨i, d, hi, hik, hg⟩ := D_pos k (by omega) h0
      exact ⟨i, d, hi, by omega, hg⟩

theorem D_lv {c : Dev nD} {g : GSem nD τ sig} {u : Unit} {k : ℕ} (hk : k ≤ 18) (h : 0 < D c k g u) : u ∈ L g ∧ 20 ≤ lv g u + k := by
  obtain ⟨i, d, hi, hik, rfl⟩ := D_pos k hk h
  refine ⟨by rw [L_tc]; exact Finset.mem_singleton_self _, ?_⟩
  rw [lv_recv, num_copyAt hi]
  omega

theorem O₀_lv {c : Dev nD} {g : GSem nD τ sig} {u : Unit} (h : 0 < O₀ c g u) : u ∈ L g ∧ 0 < lv g u := by
  unfold O₀ O₁ O₂ at h
  rw [Pi.add_apply, Finsupp.add_apply, Pi.add_apply, Finsupp.add_apply, Pi.add_apply, Finsupp.add_apply] at h
  have hb : ∀ a : Fin 3, 0 < tallyAt (barCell (peer a c)) () 1 g u → u ∈ L g ∧ 0 < lv g u := fun a ha => by
    rw [tally_pos ha]; exact ⟨by rw [L_tc]; exact Finset.mem_singleton_self _, Nat.one_pos⟩
  rcases Nat.eq_zero_or_pos (D c 18 g u) with h1 | h1
  · rcases Nat.eq_zero_or_pos (tallyAt (barCell (peer 2 c)) () 1 g u) with h2 | h2
    · rcases Nat.eq_zero_or_pos (tallyAt (barCell (peer 1 c)) () 1 g u) with h3 | h3
      · exact hb 0 (by omega)
      · exact hb 1 h3
    · exact hb 2 h2
  · have := D_lv le_rfl h1
    exact ⟨this.1, by omega⟩

omit [FloatOps F] in
/-- Anything low may be waited for whatever is owed. -/
theorem mayWait_low (c : Dev nD) (q : DmaSem sig) (hq : q.val < 24) (O : CellTallies nD τ sig Unit) (hO : O = O₀ c ∨ ∃ k, k ≤ 18 ∧ O = D c k) :
    (levAts L lv : sProp 𝕄) ⊢ MayWait (c : Thread nD τ) (.dma q) () O := by
  have hlv : ∀ g u, 0 < O g u → u ∈ L g ∧ 0 < lv g u := by
    intro g u hg
    rcases hO with rfl | ⟨k, hk, rfl⟩
    · exact O₀_lv hg
    · have := D_lv hk hg
      exact ⟨this.1, by omega⟩
  exact MayOwe.of_cut (L := L) (lev := lv) 0 (fun p hp => by rw [Finset.mem_singleton.mp hp, L_tc]; exact Finset.mem_singleton_self _)
    (fun g u hg => (hlv g u hg).1) (fun p hp => by rw [Finset.mem_singleton.mp hp]; exact (lv_low c q hq ()).le)
    (fun g u hg => (hlv g u hg).2)

omit [FloatOps F] in
/-- At the barrier only copies are owed. -/
theorem mayWait_bar (c : Dev nD) : (levAts L lv : sProp 𝕄) ⊢ MayWait (c : Thread nD τ) (.reg barS) () (D c 18) :=
  MayOwe.of_cut (L := L) (lev := lv) 1 (fun p hp => by rw [Finset.mem_singleton.mp hp, L_tc]; exact Finset.mem_singleton_self _)
    (fun g u hg => (D_lv le_rfl hg).1) (fun p hp => by rw [Finset.mem_singleton.mp hp]; exact (lv_bar c ()).le)
    (fun g u hg => by have := (D_lv le_rfl hg).2; omega)

omit [FloatOps F] in
/-- Copy `n` may be waited for when only later copies are owed. -/
theorem mayWait_recv (c : Dev nD) (n : Copy) (k : ℕ) (h : num n + k < 18) :
    (levAts L lv : sProp 𝕄) ⊢ MayWait (c : Thread nD τ) (.dma (recvS n)) () (D c k) :=
  MayOwe.of_cut (L := L) (lev := lv) (2 + num n) (fun p hp => by rw [Finset.mem_singleton.mp hp, L_tc]; exact Finset.mem_singleton_self _)
    (fun g u hg => (D_lv (by omega) hg).1) (fun p hp => by rw [Finset.mem_singleton.mp hp]; exact (lv_recv n c ()).le)
    (fun g u hg => by have := (D_lv (k := k) (by omega) hg).2; omega)

end Cert.RingKernelIdeal

end
-- ==== Proof.RingKernelIdeal.Steps.lean ====
/-
# The steps of the exchange

One lemma for each kind of memory operation of the exchange, stated once for every device, batch, round and chunk: the
signal to a neighbour, the wait at the barrier, a copy, the waits for it to have left and to have landed, the loads of
a chunk and of a slot, and the store that adds one to the other. A copy goes through the stages `Ready`, `Sent`, `Half`
and `Done`, which say what its device holds of it.
-/
module

public import proofs.«01_k».proof.Proof.RingKernelIdeal.Sched

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Cell → ℕ)

/-! ## What everybody knows -/

/-- Every cell's invariant stands, every cell's round 0 is reached, and the levels are as `lv` says. -/
def ctx : sProp 𝕄 :=
  iprop((bigSep Finset.univ fun ck : Dev nD × Cell => cellInv ER (Rd I) (K ck) (kcell ck))
    ∗ (bigSep Finset.univ fun ck : Dev nD × Cell => reached ER (kcell ck) 0) ∗ levAts L lv)

instance ctx_persistent : BI.Persistent (ctx I K) := by unfold ctx; infer_instance

theorem inv_at (c : Dev nD) (k : Cell) : ctx I K ⊢ cellInv ER (Rd I) (K (c, k)) (kcell (c, k)) := by
  unfold ctx
  iintro ⟨#H, -, -⟩
  iapply (show (bigSep Finset.univ fun ck : Dev nD × Cell => cellInv ER (Rd I) (K ck) (kcell ck) : sProp 𝕄) ⊢ cellInv ER (Rd I) (K (c, k)) (kcell (c, k)) from
    bigSep_elim (Finset.mem_univ (c, k))) $$ H
theorem reached_at (c : Dev nD) (k : Cell) : ctx I K ⊢ reached ER (kcell (c, k)) 0 := by
  unfold ctx
  iintro ⟨-, #H, -⟩
  iapply (show (bigSep Finset.univ fun ck : Dev nD × Cell => reached ER (kcell ck) 0 : sProp 𝕄) ⊢ reached ER (kcell (c, k)) 0 from
    bigSep_elim (Finset.mem_univ (c, k))) $$ H
theorem lev_at : ctx I K ⊢ levAts L lv := by
  unfold ctx
  iintro ⟨-, -, #H⟩
  iexact H

/-- Device `c` owes `O`, whatever it has waited at so far. -/
def OW (c : Dev nD) (O : CellTallies nD τ sig Unit) : sProp 𝕄 := iprop(∃ W, owes (c : Thread nD τ) O W)

/-! ## The stages of a copy -/

/-- Before the barrier: the tokens to make copy `n`, the positions at its two cells, and the credit to wait for the
    partner's. -/
def Start (c : Dev nD) (n : Copy) : sProp 𝕄 :=
  iprop(dutyTok ER (sendCell n c) 0 0 ∗ dutyTok ER (recvCell n (partner n c)) 0 0
    ∗ atPos ER (sendCell n c) 0 ∅ 0 ∗ atPos ER (recvCell n c) 0 ∅ 0 ∗ cred (tallyAt (recvCell n c) () N))
/-- The partner's slot is there to be written. -/
def Ready (c : Dev nD) (n : Copy) : sProp 𝕄 := iprop(Start c n ∗ ∃ f, slotPts n (partner n c) f)
/-- The copy is on its way. -/
def Sent (c : Dev nD) (n : Copy) : sProp 𝕄 :=
  iprop(cred (tallyAt (sendCell n c) () N) ∗ atPos ER (sendCell n c) 0 ∅ 0 ∗ atPos ER (recvCell n c) 0 ∅ 0
    ∗ cred (tallyAt (recvCell n c) () N))
/-- The copy has left, and its send cell is closed. -/
def Half (c : Dev nD) (n : Copy) : sProp 𝕄 :=
  iprop(semVal (sendCell n c) 0 ∗ atPos ER (recvCell n c) 0 ∅ 0 ∗ cred (tallyAt (recvCell n c) () N))
/-- The partner's copy has landed, and both cells are closed. -/
def Done (c : Dev nD) (n : Copy) : sProp 𝕄 := iprop(semVal (sendCell n c) 0 ∗ semVal (recvCell n c) 0)

section Steps
variable (c : Dev nD)

/-- The signal to the neighbour across axis `a` hands it the slots its copies will write. -/
theorem step_signal (a : Fin 3) {p : Dev nD} (hp : p = peer a c) {s : Sem sig} (hs : s = barS) {O' : CellTallies nD τ sig Unit}
    (O : CellTallies nD τ sig Unit) (hO : O' = O + tallyAt (barCell (peer a c)) () 1) {k' : ℕ} (hk : k' = 1)
    {α : Type} {Q : α → sProp 𝕄} {k : PUnit → Prog (TpuEff nD τ sig (Elt F) Λ₀ .tc) α} :
    iprop(ctx I K ∗ OW c O' ∗ dutyTok ER (barCell (peer a c)) 0 a ∗ lent a c)
      ⊢ iprop((OW c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) s k') k) Q) := by
  subst hp hs hk
  unfold OW
  iintro ⟨#Hc, ⟨%W, HO⟩, Ht, Hl⟩ Hk
  ihave #HI := (inv_at I K (peer a c) bar) $$ Hc
  ihave #Hr := (reached_at I K (peer a c) bar) $$ Hc
  iapply (Rounds.wp_signal 𝒱₀ ER (Rd I) (c : Thread nD τ) none (dst := (peer a c : Thread nD τ)) (κ := K (peer a c, bar))
      (d := a) (by rw [show (Rd (F := F) I).duties (barCell (peer a c)) 0 = Finset.univ from duties_cell I (peer a c) bar]; exact Finset.mem_univ _)
      (amount_bar I (peer a c) a) () O hO) $$ [HO Ht Hl]
  · isplitr; · iexact HI
    isplitl [HO]; · iexact HO
    isplitl [Ht]; · iexact Ht
    isplitl [Hl]
    · rw [show (Rd (F := F) I).payload (barCell (peer a c)) 0 a = lent a (peer a (peer a c)) from payload_cell I (peer a c) bar a, peer_peer]
      iexact Hl
    · iexact Hr
  iintro HO
  iapply Hk
  iexists W
  iexact HO

/-- The wait at the barrier brings every partner's slot; the barrier cell closes. -/
theorem step_barrier {s : Sem sig} (hs : s = barS) {k' : ℕ} (hk : k' = 3) {α : Type} {Q : α → sProp 𝕄} {k : PUnit → Prog (TpuEff nD τ sig (Elt F) Λ₀ .tc) α} :
    iprop(ctx I K ∗ OW c (D c 18) ∗ cred (tallyAt (barCell c) () 3) ∗ atPos ER (barCell c) 0 ∅ 0)
      ⊢ iprop(((OW c (D c 18) ∗ semVal (barCell c) 0 ∗ bigSep Finset.univ fun n : Copy => iprop(∃ f, slotPts n (partner n c) f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s k') k) Q) := by
  subst hs hk
  unfold OW
  iintro ⟨#Hc, ⟨%W, HO⟩, Hcr, Hat⟩ Hk
  ihave #HI := (inv_at I K c bar) $$ Hc
  ihave #Hlev := (lev_at I K) $$ Hc
  iapply (Rounds.wp_wait_rest_token 𝒱₀ ER (Rd I) (c : Thread nD τ) none (κ := K (c, bar))
      (wpE_semWait_eq 𝒱₀ (c : Thread nD τ) none Set.univ) (Set.mem_univ _) () (O := D c 18) (W := W) (R := 0) (m := 0) (T := ∅)
      (by rw [expect_bar])) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  ihave Hp := (Entails.of_eq ((rest_bar I c).trans (lent_all c))) $$ Hpay
  imod (Rounds.cell_close ER (Rd I) (Set.mem_univ (K (c, bar))) (fun h => h) (R := 0 + 1) (duties_later I (barCell c))) $$ [Hat] with Hz
  · isplitr; · iexact HI
    iexact Hat
  iapply Hk
  isplitl [HO]; · iexists _; iexact HO
  isplitl [Hz] <;> iassumption

set_option maxHeartbeats 1000000 in
/-- A copy of the chunk to the partner's slot: one debt less. -/
theorem step_copy (n : Copy) (i : ℕ) (hn : copyAt (17 - i) = n) (t : ℕ) (ht : n.2.1.val = t) {p : Dev nD} (hp : p = partner n c)
    {src dst : Memref sig .tc .vmem S512x256 .bf16} (hsrcM : src = chunkM n.1 n.2.2) (hdstM : dst = slotM n.1 n.2.1 n.2.2)
    {sS sR : DmaSem sig} (hsS : sS = sendS n) (hsR : sR = recvS n)
    {hsc : (dst : Memref sig (Dev.tc p : Thread nD τ).2.kind .vmem S512x256 .bf16).view.ref.isScScratch = false}
    {hsrc : src.view.WordExact} {hdst : dst.view.WordExact}
    {hsem : DmaTarget.Typed .vmem (.dma sR) (.remote (Dev.tc p : Thread nD τ) (dst : Memref sig (Dev.tc p : Thread nD τ).2.kind .vmem S512x256 .bf16) (.dma sS) hsc)}
    {α : Type} {Q : α → sProp 𝕄} {k : PUnit → Prog (TpuEff nD τ sig (Elt F) Λ₀ .tc) α} :
    iprop(ctx I K ∗ OW c (D c (i + 1)) ∗ Ready c n ∗ chunkPts c n.1 n.2.2 (Sbuf I t c))
      ⊢ iprop(((OW c (D c i) ∗ Sent c n) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma sS) hsc) (.dma sR) hsrc hdst hsem) k) Q) := by
  subst hp hsrcM hdstM hsS hsR ht
  unfold OW Ready Start Sent
  iintro ⟨#Hc, ⟨%W, HO⟩, ⟨⟨Ht1, Ht2, Ha1, Ha2, Hcr⟩, ⟨%f, Hslot⟩⟩, Hch⟩ Hk
  ihave #HI1 := (inv_at I K c (snd n)) $$ Hc
  ihave #HI2 := (inv_at I K (partner n c) (rcv n)) $$ Hc
  ihave #Hr1 := (reached_at I K c (snd n)) $$ Hc
  ihave #Hr2 := (reached_at I K (partner n c) (rcv n)) $$ Hc
  unfold chunkPts slotPts
  iapply (Rounds.wp_send_pointsTo 𝒱₀ ER (Rd I) (c : Thread nD τ) none (κ₁ := K (c, snd n)) (κ₂ := K (partner n c, rcv n))
    (c' := (partner n c : Thread nD τ)) (src := chunkM n.1 n.2.2) (dst := slotM n.1 n.2.1 n.2.2) (r₁ := 0) (r₂ := 0) (d₁ := 0) (d₂ := 0) (fd := f)
    (by rw [show (Rd (F := F) I).duties (sendCell n c) 0 = {0} from duties_cell I c (snd n)]; exact Finset.mem_singleton_self _)
    (by rw [show (Rd (F := F) I).duties (recvCell n (partner n c)) 0 = {0} from duties_cell I (partner n c) (rcv n)]; exact Finset.mem_singleton_self _)
    () () N rfl (amount_send I c n 0) (amount_recv I (partner n c) n 0) (D c i) (by rw [← hn]) (W := W)
    (by rw [show (Rd (F := F) I).payload (sendCell n c) 0 0 = chunkPts c n.1 n.2.2 (Sbuf I n.2.1.val c) from payload_cell I c (snd n) 0]
        exact BI.Entails.refl _)
    (by rw [show (Rd (F := F) I).payload (recvCell n (partner n c)) 0 0 = slotPts n (partner n c) (Rbuf I (partner n c)) from payload_cell I (partner n c) (rcv n) 0]
        exact Entails.of_eq (pointsTo_congr (slot_landed I n.1 n.2.1 n.2.2 c f)))) $$ [HO Hch Hslot Ht1 Ht2]
  · isplitr; · iexact HI1
    isplitr; · iexact HI2
    isplitl [Hch]; · iexact Hch
    isplitl [Hslot]; · iexact Hslot
    isplitl [HO]; · iexact HO
    isplitl [Ht1]; · iexact Ht1
    isplitr; · iexact Hr1
    isplitl [Ht2]; · iexact Ht2
    iexact Hr2
  iintro ⟨HcS, HO⟩
  iapply Hk
  isplitl [HO]; · iexists W; iexact HO
  isplitl [HcS]; · iexact HcS
  isplitl [Ha1]; · iexact Ha1
  isplitl [Ha2] <;> iassumption

/-- The wait for copy `n` to have left gives the chunk back. -/
theorem step_left (n : Copy) (i : ℕ) (hi : i ≤ 18) (t : ℕ) (ht : n.2.1.val = t)
    {src dst : Memref sig .tc .vmem S512x256 .bf16} (hdstM : dst = chunkM n.1 n.2.2) {sS : DmaSem sig} (hsS : sS = sendS n)
    {hsrc : src.view.WordExact} {hdst : dst.view.WordExact} {α : Type} {Q : α → sProp 𝕄} {k : PUnit → Prog (TpuEff nD τ sig (Elt F) Λ₀ .tc) α} :
    iprop(ctx I K ∗ OW c (D c i) ∗ Sent c n)
      ⊢ iprop(((OW c (D c i) ∗ Half c n ∗ chunkPts c n.1 n.2.2 (Sbuf I t c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hdstM hsS ht
  unfold OW Sent Half
  iintro ⟨#Hc, ⟨%W, HO⟩, ⟨HcS, Ha1, Ha2, HcR⟩⟩ Hk
  ihave #HI := (inv_at I K c (snd n)) $$ Hc
  ihave #Hlev := (lev_at I K) $$ Hc
  iapply (Rounds.wp_wait_rest_token 𝒱₀ ER (Rd I) (c : Thread nD τ) none (κ := K (c, snd n))
      (wpE_waitDma2_eq 𝒱₀ (c : Thread nD τ) none Set.univ) (Set.mem_univ _) () (O := D c i) (W := W) (R := 0) (m := 0) (T := ∅)
      (by rw [Nat.zero_add, expect_send])) $$ [HcS HO Ha1]
  · isplitr; · iexact HI
    isplitl [HcS]; · iexact HcS
    isplitl [HO]; · iexact HO
    isplitr; · iapply (mayWait_low c (sendS n) (sendS_lt n) (D c i) (.inr ⟨i, hi, rfl⟩)); iexact Hlev
    iexact Ha1
  iintro ⟨HO, Ha1, -, Hpay⟩
  ihave Hp := (Entails.of_eq (rest_send I c n)) $$ Hpay
  imod (Rounds.cell_close ER (Rd I) (Set.mem_univ (K (c, snd n))) (fun h => h) (R := 0 + 1) (duties_later I (sendCell n c))) $$ [Ha1] with Hz
  · isplitr; · iexact HI
    iexact Ha1
  iapply Hk
  isplitl [HO]; · iexists _; iexact HO
  isplitr [Hp]
  · isplitl [Hz]; · iexact Hz
    isplitl [Ha2] <;> iassumption
  iexact Hp

/-- The wait for the partner's copy `n` brings the slot with the partner's chunk in it. -/
theorem step_landed (n : Copy) (i : ℕ) (hi : num n + i < 18)
    {src dst : Memref sig .tc .vmem S512x256 .bf16} (hdstM : dst = slotM n.1 n.2.1 n.2.2) {sR : DmaSem sig} (hsR : sR = recvS n)
    {hsrc : src.view.WordExact} {hdst : dst.view.WordExact} {α : Type} {Q : α → sProp 𝕄} {k : PUnit → Prog (TpuEff nD τ sig (Elt F) Λ₀ .tc) α} :
    iprop(ctx I K ∗ OW c (D c i) ∗ Half c n)
      ⊢ iprop(((OW c (D c i) ∗ Done c n ∗ slotPts n c (Rbuf I c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hdstM hsR
  unfold OW Half Done
  iintro ⟨#Hc, ⟨%W, HO⟩, ⟨Hz1, Ha2, HcR⟩⟩ Hk
  ihave #HI := (inv_at I K c (rcv n)) $$ Hc
  ihave #Hlev := (lev_at I K) $$ Hc
  iapply (Rounds.wp_wait_rest_token 𝒱₀ ER (Rd I) (c : Thread nD τ) none (κ := K (c, rcv n))
      (wpE_waitDma2_eq 𝒱₀ (c : Thread nD τ) none Set.univ) (Set.mem_univ _) () (O := D c i) (W := W) (R := 0) (m := 0) (T := ∅)
      (by rw [Nat.zero_add, expect_recv])) $$ [HcR HO Ha2]
  · isplitr; · iexact HI
    isplitl [HcR]; · iexact HcR
    isplitl [HO]; · iexact HO
    isplitr; · iapply (mayWait_recv c n i hi); iexact Hlev
    iexact Ha2
  iintro ⟨HO, Ha2, -, Hpay⟩
  ihave Hp := (Entails.of_eq (rest_recv I c n)) $$ Hpay
  imod (Rounds.cell_close ER (Rd I) (Set.mem_univ (K (c, rcv n))) (fun h => h) (R := 0 + 1) (duties_later I (recvCell n c))) $$ [Ha2] with Hz
  · isplitr; · iexact HI
    iexact Ha2
  iapply Hk
  isplitl [HO]; · iexists _; iexact HO
  isplitr [Hp]
  · isplitl [Hz1] <;> iassumption
  iexact Hp

/-! ## Loads and stores of the pieces -/

omit [FloatOps F] in
theorem setOn_whole {κ : Kind} (b : Ref sig κ) (S : Finset b.ty.shape.Idx) : (View.whole b).setOn S = S := Finset.map_refl

theorem load_chunk_sub (b : Fin 2) (j : Fin 3) : sM.view.setOn (chunkRect b j).toLoadRect.set ⊆ (chunkM b j).view.set := by
  rw [chunk_set]; exact (setOn_whole cc0_scratch0 (chunkRect b j).set).subset
theorem load_slot_sub (b : Fin 2) (r j : Fin 3) : rM.view.setOn (slotRect b r j).toLoadRect.set ⊆ (slotM b r j).view.set := by
  rw [slot_set]; exact (setOn_whole cc0_scratch1 (slotRect b r j).set).subset
theorem load_slab_sub (b : Fin 2) : sM.view.setOn (slabRect b).toLoadRect.set ⊆ (slabRect b).set :=
  (setOn_whole cc0_scratch0 (slabRect b).set).subset

/-- A chunk is loaded. -/
theorem step_chunk (b : Fin 2) (j : Fin 3) (f : FVec F S2x512x768 .bf16)
    {hl : sM.view.LoadsAt (chunkRect b j).toLoadRect} {α : Type} {Q : α → sProp 𝕄} {k : Vec F S1x512x256 .bf16 → Prog (TpuEff nD τ sig (Elt F) Λ₀ .tc) α} :
    chunkPts c b j f
      ⊢ iprop((chunkPts c b j f -∗ wp frame (wpE (defs₀ (F := F)) 𝒱₀ (c : Thread nD τ) none) Set.univ (k (chunkVal b j f)) Q)
          -∗ wp frame (wpE (defs₀ (F := F)) 𝒱₀ (c : Thread nD τ) none) Set.univ (.op (.load sM (chunkRect b j).toLoadRect hl) k) Q) := by
  unfold chunkPts
  iintro H Hk
  iapply (wp_load 𝒱₀ (c : Thread nD τ) none Set.univ (m := sM) (load_chunk_sub b j)) $$ H
  iexact Hk

/-- A slot is loaded. -/
theorem step_slot (n : Copy) (f : FVec F S2x3x3x512x256 .bf16)
    {hl : rM.view.LoadsAt (slotRect n.1 n.2.1 n.2.2).toLoadRect} {α : Type} {Q : α → sProp 𝕄} {k : Vec F S1x1x1x512x256 .bf16 → Prog (TpuEff nD τ sig (Elt F) Λ₀ .tc) α} :
    slotPts n c f
      ⊢ iprop((slotPts n c f -∗ wp frame (wpE (defs₀ (F := F)) 𝒱₀ (c : Thread nD τ) none) Set.univ (k (slotVal n.1 n.2.1 n.2.2 f)) Q)
          -∗ wp frame (wpE (defs₀ (F := F)) 𝒱₀ (c : Thread nD τ) none) Set.univ (.op (.load rM (slotRect n.1 n.2.1 n.2.2).toLoadRect hl) k) Q) := by
  unfold slotPts
  iintro H Hk
  iapply (wp_load 𝒱₀ (c : Thread nD τ) none Set.univ (m := rM) (load_slot_sub n.1 n.2.1 n.2.2)) $$ H
  iexact Hk

/-- The store of the chunk with what landed added: the chunk after the round. -/
theorem step_update (n : Copy) (t : ℕ) (ht : n.2.1.val = t) {w : Vec F S1x512x256 .bf16}
    (hw : w = updVal (chunkVal n.1 n.2.2 (Sbuf I t c)) (slotVal n.1 n.2.1 n.2.2 (Rbuf I c)))
    {hx : (sM.access (chunkRect n.1 n.2.2)).Stores Finset.univ} {hm : (Finset.univ : Finset S1x512x256.Idx) = Finset.univ ∨ ∀ a, (chunkRect n.1 n.2.2).stride a = 1}
    {α : Type} {Q : α → sProp 𝕄} {k : PUnit → Prog (TpuEff nD τ sig (Elt F) Λ₀ .tc) α} :
    chunkPts c n.1 n.2.2 (Sbuf I t c)
      ⊢ iprop((chunkPts c n.1 n.2.2 (Sbuf I (t + 1) c) -∗ wp frame (wpE (defs₀ (F := F)) 𝒱₀ (c : Thread nD τ) none) Set.univ (k ⟨⟩) Q)
          -∗ wp frame (wpE (defs₀ (F := F)) 𝒱₀ (c : Thread nD τ) none) Set.univ (.op (.store sM (chunkRect n.1 n.2.2) w Finset.univ hx hm) k) Q) := by
  subst hw ht
  unfold chunkPts
  iintro H Hk
  iapply (wp_store 𝒱₀ (c : Thread nD τ) none Set.univ (m := sM) (r := chunkRect n.1 n.2.2) (Mk := Finset.univ) (S := (chunkM n.1 n.2.2).view.set)
    (by rw [chunk_set, View.setOn_univ]; exact (View.set_slice_whole _ _).subset)) $$ H
  iintro H
  iapply Hk
  iapply (Entails.of_eq (pointsTo_congr (by rw [chunk_set]; exact chunk_updated I n.1 n.2.1 n.2.2 c _))) $$ H

/-! ## Whole batches -/

/-- Batch `b` of device `c`'s partial sums, holding `f` there. -/
def slabPts (b : Fin 2) (f : FVec F S2x512x768 .bf16) : sProp 𝕄 := sM.view.loc (c : Thread nD τ) ↦[(slabRect b).set]{fullShare} f

/-- The three chunks of a batch. -/
def chunks (b : Fin 2) (f : FVec F S2x512x768 .bf16) : sProp 𝕄 := iprop(chunkPts c b 0 f ∗ chunkPts c b 1 f ∗ chunkPts c b 2 f)

omit [FloatOps F] in
theorem slab_eq_chunks (b : Fin 2) (f : FVec F S2x512x768 .bf16) : (slabPts c b f : sProp 𝕄) = chunks c b f := by
  unfold slabPts chunks
  rw [slab_chunks, pointsTo_biUnion Finset.univ _ fun j _ j' _ h => chunk_disjoint h,
    bigSep_univ_eq_bigSepL [0, 1, 2] (by decide) (by decide), bigSepL_cons_cons, bigSepL_cons_cons, bigSepL_singleton]
  unfold chunkPts
  rw [chunk_set, chunk_set, chunk_set]
  rfl

omit [FloatOps F] in
theorem scratch_eq_slabs (f : FVec F S2x512x768 .bf16) :
    (sM.view.loc (c : Thread nD τ) ↦{fullShare} f : sProp 𝕄) = iprop(slabPts c 0 f ∗ slabPts c 1 f) := by
  have h : (sM.view.loc (c : Thread nD τ) ↦[Finset.univ.biUnion fun b : Fin 2 => (slabRect b).set]{fullShare} f : sProp 𝕄)
      = bigSep Finset.univ fun b : Fin 2 => slabPts c b f := pointsTo_biUnion Finset.univ _ fun b _ b' _ hne => slab_disjoint hne
  rw [bigSep_univ_eq_bigSepL [0, 1] (by decide) (by decide), bigSepL_cons_cons, bigSepL_singleton] at h
  exact (congrArg (fun S => (sM.view.loc (c : Thread nD τ) ↦[S]{fullShare} f : sProp 𝕄)) univ_slabs).trans h

/-- A batch is loaded. -/
theorem step_slab (b : Fin 2) (f : FVec F S2x512x768 .bf16)
    {hl : sM.view.LoadsAt (slabRect b).toLoadRect} {α : Type} {Q : α → sProp 𝕄} {k : Vec F S1x512x768 .bf16 → Prog (TpuEff nD τ sig (Elt F) Λ₀ .tc) α} :
    slabPts c b f
      ⊢ iprop((slabPts c b f -∗ wp frame (wpE (defs₀ (F := F)) 𝒱₀ (c : Thread nD τ) none) Set.univ (k (sM.view.readAt (Elt F) (slabRect b).toLoadRect f)) Q)
          -∗ wp frame (wpE (defs₀ (F := F)) 𝒱₀ (c : Thread nD τ) none) Set.univ (.op (.load sM (slabRect b).toLoadRect hl) k) Q) := by
  unfold slabPts
  iintro H Hk
  iapply (wp_load 𝒱₀ (c : Thread nD τ) none Set.univ (m := sM) (load_slab_sub b)) $$ H
  iexact Hk

/-- The first store of a batch: its chunks hold this device's partial result. -/
theorem step_partial (b : Fin 2) (f : FVec F S2x512x768 .bf16) {w : Vec F S1x512x768 .bf16} (hw : w = partial0 (I c) c b)
    {hx : (sM.access (slabRect b)).Stores Finset.univ} {hm : (Finset.univ : Finset S1x512x768.Idx) = Finset.univ ∨ ∀ a, (slabRect b).stride a = 1}
    {α : Type} {Q : α → sProp 𝕄} {k : PUnit → Prog (TpuEff nD τ sig (Elt F) Λ₀ .tc) α} :
    slabPts c b f
      ⊢ iprop((chunks c b (Sbuf I 0 c) -∗ wp frame (wpE (defs₀ (F := F)) 𝒱₀ (c : Thread nD τ) none) Set.univ (k ⟨⟩) Q)
          -∗ wp frame (wpE (defs₀ (F := F)) 𝒱₀ (c : Thread nD τ) none) Set.univ (.op (.store sM (slabRect b) w Finset.univ hx hm) k) Q) := by
  subst hw
  rw [← slab_eq_chunks]
  unfold slabPts
  iintro H Hk
  iapply (wp_store 𝒱₀ (c : Thread nD τ) none Set.univ (m := sM) (r := slabRect b) (Mk := Finset.univ) (S := (slabRect b).set)
    (by rw [View.setOn_univ]; exact (View.set_slice_whole _ _).subset)) $$ H
  iintro H
  iapply Hk
  iapply (Entails.of_eq (pointsTo_congr (slab_stored I b c f))) $$ H

end Steps

end Cert.RingKernelIdeal

end
-- ==== Proof.RingKernelIdeal.Loads.lean ====
/-
# Loads of the device's blocks, and the result buffer

The device holds its five blocks whole throughout; a load of a piece gives that piece and leaves the blocks as they
were. The result buffer is stored twice, one batch at a time.
-/

module

public import proofs.«01_k».proof.Proof.RingKernelIdeal.Steps

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Cell → ℕ)

/-- Device `c` holds its five blocks. -/
def ins (c : Dev nD) : sProp 𝕄 :=
  iprop((xM.view.loc (c : Thread nD τ) ↦{fullShare} (I c).x) ∗ (wqM.view.loc (c : Thread nD τ) ↦{fullShare} (I c).wq)
    ∗ (kM.view.loc (c : Thread nD τ) ↦{fullShare} (I c).k) ∗ (vM.view.loc (c : Thread nD τ) ↦{fullShare} (I c).v)
    ∗ (woM.view.loc (c : Thread nD τ) ↦{fullShare} (I c).wo))

/-- Device `c`'s result buffer holds `f`. -/
def oPts (c : Dev nD) (f : FVec F S2x512x768 .f32) : sProp 𝕄 := oM.view.loc (c : Thread nD τ) ↦{fullShare} f

variable (c : Dev nD)

/-- A batch of the tokens is loaded. -/
theorem step_x (b : Fin 2) {hl : xM.view.LoadsAt (Rect.unit (s := S2x512x768) ![b.val, 0, 0] S1x512x768.size (slab_inb b)).toLoadRect} {α : Type} {Q : α → sProp 𝕄}
    {k : Vec F S1x512x768 .f32 → Prog (TpuEff nD τ sig (Elt F) Λ₀ .tc) α} :
    ins I c
      ⊢ iprop((ins I c -∗ wp frame (wpE (defs₀ (F := F)) 𝒱₀ (c : Thread nD τ) none) Set.univ (k (xAt (I c) b)) Q)
          -∗ wp frame (wpE (defs₀ (F := F)) 𝒱₀ (c : Thread nD τ) none) Set.univ
            (.op (.load xM (Rect.unit (s := S2x512x768) ![b.val, 0, 0] S1x512x768.size (slab_inb b)).toLoadRect hl) k) Q) := by
  unfold ins
  iintro ⟨Hx, Hq, Hk, Hv, Ho⟩ Hw
  iapply (wp_load 𝒱₀ (c : Thread nD τ) none Set.univ (m := xM) (Finset.subset_univ _)) $$ Hx
  iintro Hx
  iapply Hw
  iframe

/-- The device's query weights are loaded. -/
theorem step_wq {hl : wqM.view.LoadsAt (Rect.unit (s := S768x4096) (k0_off1 c) S768x512.size (k0_off1_inb c)).toLoadRect} {α : Type} {Q : α → sProp 𝕄}
    {k : Vec F S768x512 .f32 → Prog (TpuEff nD τ sig (Elt F) Λ₀ .tc) α} :
    ins I c
      ⊢ iprop((ins I c -∗ wp frame (wpE (defs₀ (F := F)) 𝒱₀ (c : Thread nD τ) none) Set.univ (k (wqAt (I c) c)) Q)
          -∗ wp frame (wpE (defs₀ (F := F)) 𝒱₀ (c : Thread nD τ) none) Set.univ
            (.op (.load wqM (Rect.unit (s := S768x4096) (k0_off1 c) S768x512.size (k0_off1_inb c)).toLoadRect hl) k) Q) := by
  unfold ins
  iintro ⟨Hx, Hq, Hk, Hv, Ho⟩ Hw
  iapply (wp_load 𝒱₀ (c : Thread nD τ) none Set.univ (m := wqM) (Finset.subset_univ _)) $$ Hq
  iintro Hq
  iapply Hw
  iframe

/-- A head's keys are loaded. -/
theorem step_k (b : Fin 2) (h : Fin 8) {hl : kM.view.LoadsAt (Rect.unit (s := S2x512x8x64) ![b.val, 0, h.val, 0] S1x512x1x64.size (head_inb b h)).toLoadRect} {α : Type} {Q : α → sProp 𝕄}
    {k : Vec F S1x512x1x64 .f32 → Prog (TpuEff nD τ sig (Elt F) Λ₀ .tc) α} :
    ins I c
      ⊢ iprop((ins I c -∗ wp frame (wpE (defs₀ (F := F)) 𝒱₀ (c : Thread nD τ) none) Set.univ (k (kAt (I c) b h)) Q)
          -∗ wp frame (wpE (defs₀ (F := F)) 𝒱₀ (c : Thread nD τ) none) Set.univ
            (.op (.load kM (Rect.unit (s := S2x512x8x64) ![b.val, 0, h.val, 0] S1x512x1x64.size (head_inb b h)).toLoadRect hl) k) Q) := by
  unfold ins
  iintro ⟨Hx, Hq, Hk, Hv, Ho⟩ Hw
  iapply (wp_load 𝒱₀ (c : Thread nD τ) none Set.univ (m := kM) (Finset.subset_univ _)) $$ Hk
  iintro Hk
  iapply Hw
  iframe

/-- A head's values are loaded. -/
theorem step_v (b : Fin 2) (h : Fin 8) {hl : vM.view.LoadsAt (Rect.unit (s := S2x512x8x64) ![b.val, 0, h.val, 0] S1x512x1x64.size (head_inb b h)).toLoadRect} {α : Type} {Q : α → sProp 𝕄}
    {k : Vec F S1x512x1x64 .f32 → Prog (TpuEff nD τ sig (Elt F) Λ₀ .tc) α} :
    ins I c
      ⊢ iprop((ins I c -∗ wp frame (wpE (defs₀ (F := F)) 𝒱₀ (c : Thread nD τ) none) Set.univ (k (vAt (I c) b h)) Q)
          -∗ wp frame (wpE (defs₀ (F := F)) 𝒱₀ (c : Thread nD τ) none) Set.univ
            (.op (.load vM (Rect.unit (s := S2x512x8x64) ![b.val, 0, h.val, 0] S1x512x1x64.size (head_inb b h)).toLoadRect hl) k) Q) := by
  unfold ins
  iintro ⟨Hx, Hq, Hk, Hv, Ho⟩ Hw
  iapply (wp_load 𝒱₀ (c : Thread nD τ) none Set.univ (m := vM) (Finset.subset_univ _)) $$ Hv
  iintro Hv
  iapply Hw
  iframe

/-- A head's output weights are loaded. -/
theorem step_wo (h : Fin 8) {hl : woM.view.LoadsAt (Rect.unit (s := S4096x768) (k0_off2 c (BitVec.ofNat 32 (64 * h.val))) S64x768.size (k0_off2_inb c h)).toLoadRect} {α : Type} {Q : α → sProp 𝕄}
    {k : Vec F S64x768 .f32 → Prog (TpuEff nD τ sig (Elt F) Λ₀ .tc) α} :
    ins I c
      ⊢ iprop((ins I c -∗ wp frame (wpE (defs₀ (F := F)) 𝒱₀ (c : Thread nD τ) none) Set.univ (k (woAt (I c) c h)) Q)
          -∗ wp frame (wpE (defs₀ (F := F)) 𝒱₀ (c : Thread nD τ) none) Set.univ
            (.op (.load woM (Rect.unit (s := S4096x768) (k0_off2 c (BitVec.ofNat 32 (64 * h.val))) S64x768.size (k0_off2_inb c h)).toLoadRect hl) k) Q) := by
  unfold ins
  iintro ⟨Hx, Hq, Hk, Hv, Ho⟩ Hw
  iapply (wp_load 𝒱₀ (c : Thread nD τ) none Set.univ (m := woM) (Finset.subset_univ _)) $$ Ho
  iintro Ho
  iapply Hw
  iframe

/-- A batch of the result buffer is loaded (and not used). -/
theorem step_out_load (b : Fin 2) (f : FVec F S2x512x768 .f32)
    {hl : oM.view.LoadsAt (slabRect b).toLoadRect} {α : Type} {Q : α → sProp 𝕄} {k : Vec F S1x512x768 .f32 → Prog (TpuEff nD τ sig (Elt F) Λ₀ .tc) α} :
    oPts c f
      ⊢ iprop((oPts c f -∗ ∀ w, wp frame (wpE (defs₀ (F := F)) 𝒱₀ (c : Thread nD τ) none) Set.univ (k w) Q)
          -∗ wp frame (wpE (defs₀ (F := F)) 𝒱₀ (c : Thread nD τ) none) Set.univ (.op (.load oM (slabRect b).toLoadRect hl) k) Q) := by
  unfold oPts
  iintro H Hw
  iapply (wp_load 𝒱₀ (c : Thread nD τ) none Set.univ (m := oM) (Finset.subset_univ _)) $$ H
  iintro H
  ispecialize Hw $$ H
  iapply Hw

/-- A batch of the result is stored. -/
theorem step_out_store (b : Fin 2) (f : FVec F S2x512x768 .f32) {w : Vec F S1x512x768 .f32}
    (hw : w = outPay (sM.view.readAt (Elt F) (slabRect b).toLoadRect (Sbuf I 3 c)))
    {hx : (oM.access (slabRect b)).Stores Finset.univ} {hm : (Finset.univ : Finset S1x512x768.Idx) = Finset.univ ∨ ∀ a, (slabRect b).stride a = 1}
    {α : Type} {Q : α → sProp 𝕄} {k : PUnit → Prog (TpuEff nD τ sig (Elt F) Λ₀ .tc) α} :
    oPts c f
      ⊢ iprop((oPts c ((oM.access (slabRect b)).write (Elt F) f (outPay (sM.view.readAt (Elt F) (slabRect b).toLoadRect (Sbuf I 3 c))) Finset.univ)
            -∗ wp frame (wpE (defs₀ (F := F)) 𝒱₀ (c : Thread nD τ) none) Set.univ (k ⟨⟩) Q)
          -∗ wp frame (wpE (defs₀ (F := F)) 𝒱₀ (c : Thread nD τ) none) Set.univ (.op (.store oM (slabRect b) w Finset.univ hx hm) k) Q) := by
  subst hw
  unfold oPts
  iintro H Hk
  iapply (wp_store 𝒱₀ (c : Thread nD τ) none Set.univ (m := oM) (r := slabRect b) (Mk := Finset.univ) (S := Finset.univ) (Finset.subset_univ _)) $$ H
  iintro H
  iapply Hk
  iexact H

end Cert.RingKernelIdeal

end
-- ==== Proof.RingKernelIdeal.PartsA.lean ====
/-
# The body's parts, up to the first copies

The printed body comes cut into parts. One lemma a part: what the part needs of its device's holdings, what it leaves,
and the values it passes on. These are the parts that compute the partial results and start the first round.
-/
module

public import proofs.«01_k».proof.Proof.RingKernelIdeal.Loads

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Cell → ℕ) (c : Dev nD)

/-- Part 1: it loads the query weights and signals a neighbour. -/
theorem part1 {Q : (Σ' (d0 : Dev nD) (v2 : BitVec 32) (v5 : BitVec 32) (v17 : IVec S512x512 1) (v23 : FVec F S768x512 .f32) (v24 : Sems sig S_) (v35 : BitVec 32), BitVec 32) → sProp 𝕄} :
    iprop(ctx I K ∗ ins I c ∗ OW c (O₀ c) ∗ dutyTok ER (barCell (peer 0 c)) 0 0 ∗ lent 0 c ∗ (∀ v2, ∀ v5, ∀ v35, (ins I c ∗ OW c (O₁ c)) -∗ Q ⟨c, v2, v5, k0_pay2, k0_pay3 (wqAt (I c) c), (SemArray.scalar (sig.barrier 0 rfl)), v35, 0#32⟩))
      ⊢ wp frame (wpE (defs₀ (F := F)) 𝒱₀ (c : Thread nD τ) none) Set.univ (k0_part1_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3) Q := by
  unfold k0_part1_skel
  simp only [semSignalWord, semWaitWord, Prog.lift, Prog.bind_op, Prog.bind_ret, Prog.pure_eq_ret, wp_deviceId]
  iintro ⟨#Hctx, Hi, HO, Ht0, Hl0, Hk⟩
  iapply (step_wq I c) $$ Hi
  iintro Hi
  iapply (step_signal I K c 0 (dev_bar1 c) rfl (O₁ c) rfl rfl) $$ [HO Ht0 Hl0]
  · isplitr; · iexact Hctx
    isplitl [HO]; · iexact HO
    isplitl [Ht0]; · iexact Ht0
    iexact Hl0
  iintro HO
  rw [wp_ret]
  imodintro
  iapply Hk
  isplitl [Hi]; · iexact Hi
  iexact HO

/-- Part 2: it signals a neighbour, signals a neighbour, loads batch 0 of the tokens, loads head 0's keys, loads head
    0's values and loads head 0's output weights. -/
theorem part2 (v2 : BitVec 32) (v5 : BitVec 32) (v17 : IVec S512x512 1) (v23 : FVec F S768x512 .f32) (v35 : BitVec 32) (c0_i32_12 : BitVec 32) {Q : (Σ' (v45 : FVec F S512x512 .f32) (v46 : FVec F S512x768 .f32), FVec F S512x768 .f32) → sProp 𝕄} :
    iprop(ctx I K ∗ OW c (O₁ c) ∗ dutyTok ER (barCell (peer 1 c)) 0 1 ∗ lent 1 c ∗ dutyTok ER (barCell (peer 2 c)) 0 2 ∗ lent 2 c ∗ ins I c ∗ ((OW c (D c 18) ∗ ins I c) -∗ Q ⟨k0_pay4 v23 (xAt (I c) 0), k0_pay5 (F := F), k0_pay6 v17 v23 (xAt (I c) 0) (kAt (I c) 0 0) (vAt (I c) 0 0) (woAt (I c) c 0)⟩))
      ⊢ wp frame (wpE (defs₀ (F := F)) 𝒱₀ (c : Thread nD τ) none) Set.univ (k0_part2_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v5 v17 v23 (SemArray.scalar (sig.barrier 0 rfl)) v35 c0_i32_12) Q := by
  unfold k0_part2_skel
  simp only [semSignalWord, semWaitWord, Prog.lift, Prog.bind_op, Prog.bind_ret, Prog.pure_eq_ret, wp_deviceId]
  iintro ⟨#Hctx, HO, Ht1, Hl1, Ht2, Hl2, Hi, Hk⟩
  iapply (step_signal I K c 1 (dev_bar2 c) rfl (O₂ c) rfl rfl) $$ [HO Ht1 Hl1]
  · isplitr; · iexact Hctx
    isplitl [HO]; · iexact HO
    isplitl [Ht1]; · iexact Ht1
    iexact Hl1
  iintro HO
  iapply (step_signal I K c 2 (dev_bar3 c) rfl (D c 18) rfl rfl) $$ [HO Ht2 Hl2]
  · isplitr; · iexact Hctx
    isplitl [HO]; · iexact HO
    isplitl [Ht2]; · iexact Ht2
    iexact Hl2
  iintro HO
  iapply (step_x I c 0) $$ Hi
  iintro Hi
  iapply (step_k I c 0 0) $$ Hi
  iintro Hi
  iapply (step_v I c 0 0) $$ Hi
  iintro Hi
  iapply (step_wo I c 0) $$ Hi
  iintro Hi
  rw [wp_ret]
  imodintro
  iapply Hk
  isplitl [HO]; · iexact HO
  iexact Hi

/-- Part 3: it loads head 1's keys, loads head 1's values, loads head 1's output weights, loads head 2's keys and
    loads head 2's values. -/
theorem part3 (v2 : BitVec 32) (v17 : IVec S512x512 1) (v45 : FVec F S512x512 .f32) (v46 : FVec F S512x768 .f32) (v66 : FVec F S512x768 .f32) {Q : (Σ' (v88 : FVec F S512x768 .f32) (v95 : FVec F S512x512 .f32), FVec F S512x64 .f32) → sProp 𝕄} :
    iprop(ins I c ∗ ((ins I c) -∗ Q ⟨k0_pay7 v17 v45 v46 v66 (kAt (I c) 0 1) (vAt (I c) 0 1) (woAt (I c) c 1), k0_pay8 v17 v45 (kAt (I c) 0 2), k0_pay9 v17 v45 (kAt (I c) 0 2) (vAt (I c) 0 2)⟩))
      ⊢ wp frame (wpE (defs₀ (F := F)) 𝒱₀ (c : Thread nD τ) none) Set.univ (k0_part3_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v45 v46 v66) Q := by
  unfold k0_part3_skel
  simp only [semSignalWord, semWaitWord, Prog.lift, Prog.bind_op, Prog.bind_ret, Prog.pure_eq_ret, wp_deviceId]
  iintro ⟨Hi, Hk⟩
  iapply (step_k I c 0 1) $$ Hi
  iintro Hi
  iapply (step_v I c 0 1) $$ Hi
  iintro Hi
  iapply (step_wo I c 1) $$ Hi
  iintro Hi
  iapply (step_k I c 0 2) $$ Hi
  iintro Hi
  iapply (step_v I c 0 2) $$ Hi
  iintro Hi
  rw [wp_ret]
  imodintro
  iapply Hk
  iexact Hi

/-- Part 4: it loads head 2's output weights, loads head 3's keys, loads head 3's values, loads head 3's output
    weights and loads head 4's keys. -/
theorem part4 (v2 : BitVec 32) (v17 : IVec S512x512 1) (v45 : FVec F S512x512 .f32) (v88 : FVec F S512x768 .f32) (v95 : FVec F S512x512 .f32) (v98 : FVec F S512x64 .f32) {Q : (Σ' (v130 : FVec F S512x768 .f32) (v131 : FVec F S512x64 .f32) (v133 : FVec F S512x64 .f32), FVec F S512x512 .f32) → sProp 𝕄} :
    iprop(ins I c ∗ ((ins I c) -∗ Q ⟨k0_pay10 v17 v45 v88 v95 v98 (woAt (I c) c 2) (kAt (I c) 0 3) (vAt (I c) 0 3) (woAt (I c) c 3), k0_pay11 v45, k0_pay12 (kAt (I c) 0 4), constant S512x512 .f32 0x00000000#32⟩))
      ⊢ wp frame (wpE (defs₀ (F := F)) 𝒱₀ (c : Thread nD τ) none) Set.univ (k0_part4_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v45 v88 v95 v98) Q := by
  unfold k0_part4_skel
  simp only [semSignalWord, semWaitWord, Prog.lift, Prog.bind_op, Prog.bind_ret, Prog.pure_eq_ret, wp_deviceId]
  iintro ⟨Hi, Hk⟩
  iapply (step_wo I c 2) $$ Hi
  iintro Hi
  iapply (step_k I c 0 3) $$ Hi
  iintro Hi
  iapply (step_v I c 0 3) $$ Hi
  iintro Hi
  iapply (step_wo I c 3) $$ Hi
  iintro Hi
  iapply (step_k I c 0 4) $$ Hi
  iintro Hi
  rw [wp_ret]
  imodintro
  iapply Hk
  iexact Hi

/-- Part 5: it loads head 4's values, loads head 4's output weights, loads head 5's keys and loads head 5's values. -/
theorem part5 (v2 : BitVec 32) (v17 : IVec S512x512 1) (v45 : FVec F S512x512 .f32) (v130 : FVec F S512x768 .f32) (v131 : FVec F S512x64 .f32) (v133 : FVec F S512x64 .f32) (cst_85 : FVec F S512x512 .f32) {Q : (Σ' (v151 : FVec F S512x768 .f32), FVec F S512x64 .f32) → sProp 𝕄} :
    iprop(ins I c ∗ ((ins I c) -∗ Q ⟨k0_pay13 v17 v130 v131 v133 cst_85 (vAt (I c) 0 4) (woAt (I c) c 4), k0_pay14 v17 v45 (kAt (I c) 0 5) (vAt (I c) 0 5)⟩))
      ⊢ wp frame (wpE (defs₀ (F := F)) 𝒱₀ (c : Thread nD τ) none) Set.univ (k0_part5_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v45 v130 v131 v133 cst_85) Q := by
  unfold k0_part5_skel
  simp only [semSignalWord, semWaitWord, Prog.lift, Prog.bind_op, Prog.bind_ret, Prog.pure_eq_ret, wp_deviceId]
  iintro ⟨Hi, Hk⟩
  iapply (step_v I c 0 4) $$ Hi
  iintro Hi
  iapply (step_wo I c 4) $$ Hi
  iintro Hi
  iapply (step_k I c 0 5) $$ Hi
  iintro Hi
  iapply (step_v I c 0 5) $$ Hi
  iintro Hi
  rw [wp_ret]
  imodintro
  iapply Hk
  iexact Hi

/-- Part 6: it loads head 5's output weights, loads head 6's keys, loads head 6's values, loads head 6's output
    weights and loads head 7's keys. -/
theorem part6 (v2 : BitVec 32) (v17 : IVec S512x512 1) (v45 : FVec F S512x512 .f32) (v151 : FVec F S512x768 .f32) (v165 : FVec F S512x64 .f32) {Q : (Σ' (v193 : FVec F S512x768 .f32), FVec F S512x512 .f32) → sProp 𝕄} :
    iprop(ins I c ∗ ((ins I c) -∗ Q ⟨k0_pay15 v17 v45 v151 v165 (woAt (I c) c 5) (kAt (I c) 0 6) (vAt (I c) 0 6) (woAt (I c) c 6), k0_pay16 v17 v45 (kAt (I c) 0 7)⟩))
      ⊢ wp frame (wpE (defs₀ (F := F)) 𝒱₀ (c : Thread nD τ) none) Set.univ (k0_part6_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v45 v151 v165) Q := by
  unfold k0_part6_skel
  simp only [semSignalWord, semWaitWord, Prog.lift, Prog.bind_op, Prog.bind_ret, Prog.pure_eq_ret, wp_deviceId]
  iintro ⟨Hi, Hk⟩
  iapply (step_wo I c 5) $$ Hi
  iintro Hi
  iapply (step_k I c 0 6) $$ Hi
  iintro Hi
  iapply (step_v I c 0 6) $$ Hi
  iintro Hi
  iapply (step_wo I c 6) $$ Hi
  iintro Hi
  iapply (step_k I c 0 7) $$ Hi
  iintro Hi
  rw [wp_ret]
  imodintro
  iapply Hk
  iexact Hi

/-- Part 7: it loads head 7's values, loads head 7's output weights, stores the partial result of batch 0 and waits at
    the barrier. -/
theorem part7 (v2 : BitVec 32) (v5 : BitVec 32) (v193 : FVec F S512x768 .f32) (v200 : FVec F S512x512 .f32) (f : FVec F S2x512x768 .bf16) (hw : (k0_pay17 v193 v200 (vAt (I c) 0 7) (woAt (I c) c 7)) = partial0 (I c) c 0) {Q : (BitVec 32) → sProp 𝕄} :
    iprop(ctx I K ∗ ins I c ∗ slabPts c 0 f ∗ OW c (D c 18) ∗ cred (tallyAt (barCell c) () 3) ∗ atPos ER (barCell c) 0 ∅ 0 ∗ (∀ v222, (ins I c ∗ chunkPts c 0 0 (Sbuf I 0 c) ∗ chunkPts c 0 1 (Sbuf I 0 c) ∗ chunkPts c 0 2 (Sbuf I 0 c) ∗ OW c (D c 18) ∗ semVal (barCell c) 0 ∗ bigSep Finset.univ fun n : Copy => iprop(∃ f, slotPts n (partner n c) f)) -∗ Q (v222)))
      ⊢ wp frame (wpE (defs₀ (F := F)) 𝒱₀ (c : Thread nD τ) none) Set.univ (k0_part7_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v5 (SemArray.scalar (sig.barrier 0 rfl)) v193 v200) Q := by
  unfold k0_part7_skel
  simp only [semSignalWord, semWaitWord, Prog.lift, Prog.bind_op, Prog.bind_ret, Prog.pure_eq_ret, wp_deviceId]
  iintro ⟨#Hctx, Hi, Hb0, HO, Hcr, Hat, Hk⟩
  iapply (step_v I c 0 7) $$ Hi
  iintro Hi
  iapply (step_wo I c 7) $$ Hi
  iintro Hi
  iapply (step_slab c 0 f) $$ Hb0
  iintro Hb0
  iapply (step_partial I c 0 f hw) $$ Hb0
  unfold chunks
  iintro ⟨Hc00, Hc01, Hc02⟩
  iapply (step_barrier I K c rfl rfl) $$ [HO Hcr Hat]
  · isplitr; · iexact Hctx
    isplitl [HO]; · iexact HO
    isplitl [Hcr]; · iexact Hcr
    iexact Hat
  iintro ⟨HO, Hz, Hall⟩
  rw [wp_ret]
  imodintro
  iapply Hk
  isplitl [Hi]; · iexact Hi
  isplitl [Hc00]; · iexact Hc00
  isplitl [Hc01]; · iexact Hc01
  isplitl [Hc02]; · iexact Hc02
  isplitl [HO]; · iexact HO
  isplitl [Hz]; · iexact Hz
  iexact Hall

/-- Part 8: it starts the copy of batch 0, round 0, chunk 0 and starts the copy of batch 0, round 0, chunk 1. -/
theorem part8 (v5 : BitVec 32) {Q : (Σ' (v236 : BitVec 32), BitVec 32) → sProp 𝕄} :
    iprop(ctx I K ∗ OW c (D c 18) ∗ Ready c (0, 0, 0) ∗ chunkPts c 0 0 (Sbuf I 0 c) ∗ Ready c (0, 0, 1) ∗ chunkPts c 0 1 (Sbuf I 0 c) ∗ (∀ v236, ∀ v250, (OW c (D c 16) ∗ Sent c (0, 0, 0) ∗ Sent c (0, 0, 1)) -∗ Q ⟨v236, v250⟩))
      ⊢ wp frame (wpE (defs₀ (F := F)) 𝒱₀ (c : Thread nD τ) none) Set.univ (k0_part8_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v5) Q := by
  unfold k0_part8_skel
  simp only [semSignalWord, semWaitWord, Prog.lift, Prog.bind_op, Prog.bind_ret, Prog.pure_eq_ret, wp_deviceId]
  iintro ⟨#Hctx, HO, Hn000, Hc00, Hn001, Hc01, Hk⟩
  iapply (step_copy I K c (0, 0, 0) 17 rfl 0 rfl (dev_copy0 c) rfl rfl rfl rfl) $$ [HO Hn000 Hc00]
  · isplitr; · iexact Hctx
    isplitl [HO]; · iexact HO
    isplitl [Hn000]; · iexact Hn000
    iexact Hc00
  iintro ⟨HO, Hn000⟩
  iapply (step_copy I K c (0, 0, 1) 16 rfl 0 rfl (dev_copy1 c) rfl rfl rfl rfl) $$ [HO Hn001 Hc01]
  · isplitr; · iexact Hctx
    isplitl [HO]; · iexact HO
    isplitl [Hn001]; · iexact Hn001
    iexact Hc01
  iintro ⟨HO, Hn001⟩
  rw [wp_ret]
  imodintro
  iapply Hk
  isplitl [HO]; · iexact HO
  isplitl [Hn000]; · iexact Hn000
  iexact Hn001

/-- Part 9: it starts the copy of batch 0, round 0, chunk 2, loads batch 1 of the tokens, loads head 0's keys, loads
    head 0's values and loads head 0's output weights. -/
theorem part9 (v2 : BitVec 32) (v17 : IVec S512x512 1) (v23 : FVec F S768x512 .f32) {Q : (Σ' (v263 : FVec F S512x512 .f32) (v285 : FVec F S512x768 .f32), FVec F S512x64 .f32) → sProp 𝕄} :
    iprop(ctx I K ∗ OW c (D c 16) ∗ Ready c (0, 0, 2) ∗ chunkPts c 0 2 (Sbuf I 0 c) ∗ ins I c ∗ ((OW c (D c 15) ∗ Sent c (0, 0, 2) ∗ ins I c) -∗ Q ⟨k0_pay18 v23 (xAt (I c) 1), k0_pay19 v17 v23 (xAt (I c) 1) (kAt (I c) 1 0) (vAt (I c) 1 0) (woAt (I c) c 0), k0_pay20 v23 (xAt (I c) 1)⟩))
      ⊢ wp frame (wpE (defs₀ (F := F)) 𝒱₀ (c : Thread nD τ) none) Set.univ (k0_part9_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v23) Q := by
  unfold k0_part9_skel
  simp only [semSignalWord, semWaitWord, Prog.lift, Prog.bind_op, Prog.bind_ret, Prog.pure_eq_ret, wp_deviceId]
  iintro ⟨#Hctx, HO, Hn002, Hc02, Hi, Hk⟩
  iapply (step_copy I K c (0, 0, 2) 15 rfl 0 rfl (dev_copy2 c) rfl rfl rfl rfl) $$ [HO Hn002 Hc02]
  · isplitr; · iexact Hctx
    isplitl [HO]; · iexact HO
    isplitl [Hn002]; · iexact Hn002
    iexact Hc02
  iintro ⟨HO, Hn002⟩
  iapply (step_x I c 1) $$ Hi
  iintro Hi
  iapply (step_k I c 1 0) $$ Hi
  iintro Hi
  iapply (step_v I c 1 0) $$ Hi
  iintro Hi
  iapply (step_wo I c 0) $$ Hi
  iintro Hi
  rw [wp_ret]
  imodintro
  iapply Hk
  isplitl [HO]; · iexact HO
  isplitl [Hn002]; · iexact Hn002
  iexact Hi

/-- Part 10: it loads head 1's keys, loads head 1's values, loads head 1's output weights, loads head 2's keys and
    loads head 2's values. -/
theorem part10 (v2 : BitVec 32) (v17 : IVec S512x512 1) (v263 : FVec F S512x512 .f32) (v285 : FVec F S512x768 .f32) (v286 : FVec F S512x64 .f32) {Q : (Σ' (v306 : FVec F S512x768 .f32) (v316 : FVec F S512x64 .f32), FVec F S512x1 .f32) → sProp 𝕄} :
    iprop(ins I c ∗ ((ins I c) -∗ Q ⟨k0_pay21 v17 v285 v286 (kAt (I c) 1 1) (vAt (I c) 1 1) (woAt (I c) c 1), k0_pay23 v17 v263 (kAt (I c) 1 2) (vAt (I c) 1 2), k0_pay24 v17 v263 (kAt (I c) 1 2)⟩))
      ⊢ wp frame (wpE (defs₀ (F := F)) 𝒱₀ (c : Thread nD τ) none) Set.univ (k0_part10_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v263 v285 v286) Q := by
  unfold k0_part10_skel
  simp only [semSignalWord, semWaitWord, Prog.lift, Prog.bind_op, Prog.bind_ret, Prog.pure_eq_ret, wp_deviceId]
  iintro ⟨Hi, Hk⟩
  iapply (step_k I c 1 1) $$ Hi
  iintro Hi
  iapply (step_v I c 1 1) $$ Hi
  iintro Hi
  iapply (step_wo I c 1) $$ Hi
  iintro Hi
  iapply (step_k I c 1 2) $$ Hi
  iintro Hi
  iapply (step_v I c 1 2) $$ Hi
  iintro Hi
  rw [wp_ret]
  imodintro
  iapply Hk
  iexact Hi

/-- Part 11: it loads head 2's output weights, loads head 3's keys, loads head 3's values, loads head 3's output
    weights and loads head 4's keys. -/
theorem part11 (v2 : BitVec 32) (v17 : IVec S512x512 1) (v263 : FVec F S512x512 .f32) (v306 : FVec F S512x768 .f32) (v316 : FVec F S512x64 .f32) (v318 : FVec F S512x1 .f32) {Q : (Σ' (v348 : FVec F S512x768 .f32) (v352 : FVec F S512x512 .f32), F .f32) → sProp 𝕄} :
    iprop(ins I c ∗ ((ins I c) -∗ Q ⟨k0_pay25 v17 v263 v306 v316 v318 (woAt (I c) c 2) (kAt (I c) 1 3) (vAt (I c) 1 3) (woAt (I c) c 3), k0_pay26 v263 (kAt (I c) 1 4), Scalar.ofBits .f32 0xCE6E6B28#32⟩))
      ⊢ wp frame (wpE (defs₀ (F := F)) 𝒱₀ (c : Thread nD τ) none) Set.univ (k0_part11_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v263 v306 v316 v318) Q := by
  unfold k0_part11_skel
  simp only [semSignalWord, semWaitWord, Prog.lift, Prog.bind_op, Prog.bind_ret, Prog.pure_eq_ret, wp_deviceId]
  iintro ⟨Hi, Hk⟩
  iapply (step_wo I c 2) $$ Hi
  iintro Hi
  iapply (step_k I c 1 3) $$ Hi
  iintro Hi
  iapply (step_v I c 1 3) $$ Hi
  iintro Hi
  iapply (step_wo I c 3) $$ Hi
  iintro Hi
  iapply (step_k I c 1 4) $$ Hi
  iintro Hi
  rw [wp_ret]
  imodintro
  iapply Hk
  iexact Hi

/-- Part 12: it loads head 4's values, loads head 4's output weights, loads head 5's keys, loads head 5's values and
    loads head 5's output weights. -/
theorem part12 (v2 : BitVec 32) (v17 : IVec S512x512 1) (v263 : FVec F S512x512 .f32) (v348 : FVec F S512x768 .f32) (v352 : FVec F S512x512 .f32) (cst_272 : F .f32) {Q : (Σ' (v369 : FVec F S512x768 .f32) (v383 : FVec F S512x64 .f32), Vec F S64x768 .f32) → sProp 𝕄} :
    iprop(ins I c ∗ ((ins I c) -∗ Q ⟨k0_pay27 v17 v348 v352 cst_272 (vAt (I c) 1 4) (woAt (I c) c 4), k0_pay28 v17 v263 (kAt (I c) 1 5) (vAt (I c) 1 5), (woAt (I c) c 5)⟩))
      ⊢ wp frame (wpE (defs₀ (F := F)) 𝒱₀ (c : Thread nD τ) none) Set.univ (k0_part12_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v263 v348 v352 cst_272) Q := by
  unfold k0_part12_skel
  simp only [semSignalWord, semWaitWord, Prog.lift, Prog.bind_op, Prog.bind_ret, Prog.pure_eq_ret, wp_deviceId]
  iintro ⟨Hi, Hk⟩
  iapply (step_v I c 1 4) $$ Hi
  iintro Hi
  iapply (step_wo I c 4) $$ Hi
  iintro Hi
  iapply (step_k I c 1 5) $$ Hi
  iintro Hi
  iapply (step_v I c 1 5) $$ Hi
  iintro Hi
  iapply (step_wo I c 5) $$ Hi
  iintro Hi
  rw [wp_ret]
  imodintro
  iapply Hk
  iexact Hi

/-- Part 13: it loads head 6's keys, loads head 6's values, loads head 6's output weights, loads head 7's keys and
    loads head 7's values. -/
theorem part13 (v2 : BitVec 32) (v17 : IVec S512x512 1) (v263 : FVec F S512x512 .f32) (v369 : FVec F S512x768 .f32) (v383 : FVec F S512x64 .f32) (v387 : Vec F S64x768 .f32) {Q : (Σ' (v411 : FVec F S512x768 .f32) (v418 : FVec F S512x512 .f32), FVec F S512x64 .f32) → sProp 𝕄} :
    iprop(ins I c ∗ ((ins I c) -∗ Q ⟨k0_pay29 v17 v263 v369 v383 v387 (kAt (I c) 1 6) (vAt (I c) 1 6) (woAt (I c) c 6), k0_pay30 v17 v263 (kAt (I c) 1 7), k0_pay31 (vAt (I c) 1 7)⟩))
      ⊢ wp frame (wpE (defs₀ (F := F)) 𝒱₀ (c : Thread nD τ) none) Set.univ (k0_part13_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v17 v263 v369 v383 v387) Q := by
  unfold k0_part13_skel
  simp only [semSignalWord, semWaitWord, Prog.lift, Prog.bind_op, Prog.bind_ret, Prog.pure_eq_ret, wp_deviceId]
  iintro ⟨Hi, Hk⟩
  iapply (step_k I c 1 6) $$ Hi
  iintro Hi
  iapply (step_v I c 1 6) $$ Hi
  iintro Hi
  iapply (step_wo I c 6) $$ Hi
  iintro Hi
  iapply (step_k I c 1 7) $$ Hi
  iintro Hi
  iapply (step_v I c 1 7) $$ Hi
  iintro Hi
  rw [wp_ret]
  imodintro
  iapply Hk
  iexact Hi

/-- Part 14: it loads head 7's output weights, stores the partial result of batch 1 and starts the copy of batch 1,
    round 0, chunk 0. -/
theorem part14 (v2 : BitVec 32) (v5 : BitVec 32) (v411 : FVec F S512x768 .f32) (v418 : FVec F S512x512 .f32) (v420 : FVec F S512x64 .f32) (f : FVec F S2x512x768 .bf16) (hw : (k0_pay32 v411 v418 v420 (woAt (I c) c 7)) = partial0 (I c) c 1) {Q : (BitVec 32) → sProp 𝕄} :
    iprop(ctx I K ∗ ins I c ∗ slabPts c 1 f ∗ OW c (D c 15) ∗ Ready c (1, 0, 0) ∗ (∀ v440, (ins I c ∗ chunkPts c 1 1 (Sbuf I 0 c) ∗ chunkPts c 1 2 (Sbuf I 0 c) ∗ OW c (D c 14) ∗ Sent c (1, 0, 0)) -∗ Q (v440)))
      ⊢ wp frame (wpE (defs₀ (F := F)) 𝒱₀ (c : Thread nD τ) none) Set.univ (k0_part14_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v2 v5 v411 v418 v420) Q := by
  unfold k0_part14_skel
  simp only [semSignalWord, semWaitWord, Prog.lift, Prog.bind_op, Prog.bind_ret, Prog.pure_eq_ret, wp_deviceId]
  iintro ⟨#Hctx, Hi, Hb1, HO, Hn100, Hk⟩
  iapply (step_wo I c 7) $$ Hi
  iintro Hi
  iapply (step_slab c 1 f) $$ Hb1
  iintro Hb1
  iapply (step_partial I c 1 f hw) $$ Hb1
  unfold chunks
  iintro ⟨Hc10, Hc11, Hc12⟩
  iapply (step_copy I K c (1, 0, 0) 14 rfl 0 rfl (dev_copy3 c) rfl rfl rfl rfl) $$ [HO Hn100 Hc10]
  · isplitr; · iexact Hctx
    isplitl [HO]; · iexact HO
    isplitl [Hn100]; · iexact Hn100
    iexact Hc10
  iintro ⟨HO, Hn100⟩
  rw [wp_ret]
  imodintro
  iapply Hk
  isplitl [Hi]; · iexact Hi
  isplitl [Hc11]; · iexact Hc11
  isplitl [Hc12]; · iexact Hc12
  isplitl [HO]; · iexact HO
  iexact Hn100

/-- Part 15: it starts the copy of batch 1, round 0, chunk 1. -/
theorem part15 (v5 : BitVec 32) {Q : (Σ' (v454 : BitVec 32), BitVec 32) → sProp 𝕄} :
    iprop(ctx I K ∗ OW c (D c 14) ∗ Ready c (1, 0, 1) ∗ chunkPts c 1 1 (Sbuf I 0 c) ∗ (∀ v454, ∀ v468, (OW c (D c 13) ∗ Sent c (1, 0, 1)) -∗ Q ⟨v454, v468⟩))
      ⊢ wp frame (wpE (defs₀ (F := F)) 𝒱₀ (c : Thread nD τ) none) Set.univ (k0_part15_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v5) Q := by
  unfold k0_part15_skel
  simp only [semSignalWord, semWaitWord, Prog.lift, Prog.bind_op, Prog.bind_ret, Prog.pure_eq_ret, wp_deviceId]
  iintro ⟨#Hctx, HO, Hn101, Hc11, Hk⟩
  iapply (step_copy I K c (1, 0, 1) 13 rfl 0 rfl (dev_copy4 c) rfl rfl rfl rfl) $$ [HO Hn101 Hc11]
  · isplitr; · iexact Hctx
    isplitl [HO]; · iexact HO
    isplitl [Hn101]; · iexact Hn101
    iexact Hc11
  iintro ⟨HO, Hn101⟩
  rw [wp_ret]
  imodintro
  iapply Hk
  isplitl [HO]; · iexact HO
  iexact Hn101

end Cert.RingKernelIdeal

end
-- ==== Proof.RingKernelIdeal.PartsB.lean ====
/-
# The body's parts, from the first waits on

One lemma a part, for the parts that finish the three rounds of exchange and store the first batch of the result.
-/
module

public import proofs.«01_k».proof.Proof.RingKernelIdeal.Loads

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Cell → ℕ) (c : Dev nD)

/-- Part 16: it starts the copy of batch 1, round 0, chunk 2, waits for the copy of batch 0, round 0, chunk 0 to have
    left and waits for the partner's copy of batch 0, round 0, chunk 0. -/
theorem part16 (v222 : BitVec 32) {Q : PUnit → sProp 𝕄} :
    iprop(ctx I K ∗ OW c (D c 13) ∗ Ready c (1, 0, 2) ∗ chunkPts c 1 2 (Sbuf I 0 c) ∗ Sent c (0, 0, 0) ∗ ((OW c (D c 12) ∗ Sent c (1, 0, 2) ∗ Done c (0, 0, 0) ∗ chunkPts c 0 0 (Sbuf I 0 c) ∗ slotPts (0, 0, 0) c (Rbuf I c)) -∗ Q ⟨⟩))
      ⊢ wp frame (wpE (defs₀ (F := F)) 𝒱₀ (c : Thread nD τ) none) Set.univ (k0_part16_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v222) Q := by
  unfold k0_part16_skel
  simp only [semSignalWord, semWaitWord, Prog.lift, Prog.bind_op, Prog.bind_ret, Prog.pure_eq_ret, wp_deviceId]
  iintro ⟨#Hctx, HO, Hn102, Hc12, Hn000, Hk⟩
  iapply (step_copy I K c (1, 0, 2) 12 rfl 0 rfl (dev_copy5 c) rfl rfl rfl rfl) $$ [HO Hn102 Hc12]
  · isplitr; · iexact Hctx
    isplitl [HO]; · iexact HO
    isplitl [Hn102]; · iexact Hn102
    iexact Hc12
  iintro ⟨HO, Hn102⟩
  iapply (step_left I K c (0, 0, 0) 12 (by omega) 0 rfl rfl rfl) $$ [HO Hn000]
  · isplitr; · iexact Hctx
    isplitl [HO]; · iexact HO
    iexact Hn000
  iintro ⟨HO, Hn000, Hc00⟩
  iapply (step_landed I K c (0, 0, 0) 12 (by decide) rfl rfl) $$ [HO Hn000]
  · isplitr; · iexact Hctx
    isplitl [HO]; · iexact HO
    iexact Hn000
  iintro ⟨HO, Hn000, Hs000⟩
  rw [wp_ret]
  imodintro
  iapply Hk
  isplitl [HO]; · iexact HO
  isplitl [Hn102]; · iexact Hn102
  isplitl [Hn000]; · iexact Hn000
  isplitl [Hc00]; · iexact Hc00
  iexact Hs000

/-- Part 17: it waits for the copy of batch 0, round 0, chunk 1 to have left and waits for the partner's copy of batch
    0, round 0, chunk 1. -/
theorem part17 (v236 : BitVec 32) {Q : PUnit → sProp 𝕄} :
    iprop(ctx I K ∗ OW c (D c 12) ∗ Sent c (0, 0, 1) ∗ ((OW c (D c 12) ∗ Done c (0, 0, 1) ∗ chunkPts c 0 1 (Sbuf I 0 c) ∗ slotPts (0, 0, 1) c (Rbuf I c)) -∗ Q ⟨⟩))
      ⊢ wp frame (wpE (defs₀ (F := F)) 𝒱₀ (c : Thread nD τ) none) Set.univ (k0_part17_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v236) Q := by
  unfold k0_part17_skel
  simp only [semSignalWord, semWaitWord, Prog.lift, Prog.bind_op, Prog.bind_ret, Prog.pure_eq_ret, wp_deviceId]
  iintro ⟨#Hctx, HO, Hn001, Hk⟩
  iapply (step_left I K c (0, 0, 1) 12 (by omega) 0 rfl rfl rfl) $$ [HO Hn001]
  · isplitr; · iexact Hctx
    isplitl [HO]; · iexact HO
    iexact Hn001
  iintro ⟨HO, Hn001, Hc01⟩
  iapply (step_landed I K c (0, 0, 1) 12 (by decide) rfl rfl) $$ [HO Hn001]
  · isplitr; · iexact Hctx
    isplitl [HO]; · iexact HO
    iexact Hn001
  iintro ⟨HO, Hn001, Hs001⟩
  rw [wp_ret]
  imodintro
  iapply Hk
  isplitl [HO]; · iexact HO
  isplitl [Hn001]; · iexact Hn001
  isplitl [Hc01]; · iexact Hc01
  iexact Hs001

/-- Part 18: it waits for the copy of batch 0, round 0, chunk 2 to have left, waits for the partner's copy of batch 0,
    round 0, chunk 2 and adds what landed for batch 0, round 0, chunk 0. -/
theorem part18 (v250 : BitVec 32) {Q : (Σ' (v530 : FVec F S512x256 .bf16), Vec F S1x1x1x512x256 .bf16) → sProp 𝕄} :
    iprop(ctx I K ∗ OW c (D c 12) ∗ Sent c (0, 0, 2) ∗ chunkPts c 0 0 (Sbuf I 0 c) ∗ slotPts (0, 0, 0) c (Rbuf I c) ∗ chunkPts c 0 1 (Sbuf I 0 c) ∗ slotPts (0, 0, 1) c (Rbuf I c) ∗ ((OW c (D c 12) ∗ Done c (0, 0, 2) ∗ chunkPts c 0 2 (Sbuf I 0 c) ∗ slotPts (0, 0, 2) c (Rbuf I c) ∗ chunkPts c 0 0 (Sbuf I 1 c) ∗ slotPts (0, 0, 0) c (Rbuf I c) ∗ chunkPts c 0 1 (Sbuf I 0 c) ∗ slotPts (0, 0, 1) c (Rbuf I c)) -∗ Q ⟨k0_pay34 (chunkVal 0 1 (Sbuf I 0 c)), (slotVal 0 0 1 (Rbuf I c))⟩))
      ⊢ wp frame (wpE (defs₀ (F := F)) 𝒱₀ (c : Thread nD τ) none) Set.univ (k0_part18_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v250) Q := by
  unfold k0_part18_skel
  simp only [semSignalWord, semWaitWord, Prog.lift, Prog.bind_op, Prog.bind_ret, Prog.pure_eq_ret, wp_deviceId]
  iintro ⟨#Hctx, HO, Hn002, Hc00, Hs000, Hc01, Hs001, Hk⟩
  iapply (step_left I K c (0, 0, 2) 12 (by omega) 0 rfl rfl rfl) $$ [HO Hn002]
  · isplitr; · iexact Hctx
    isplitl [HO]; · iexact HO
    iexact Hn002
  iintro ⟨HO, Hn002, Hc02⟩
  iapply (step_landed I K c (0, 0, 2) 12 (by decide) rfl rfl) $$ [HO Hn002]
  · isplitr; · iexact Hctx
    isplitl [HO]; · iexact HO
    iexact Hn002
  iintro ⟨HO, Hn002, Hs002⟩
  iapply (step_chunk c 0 0 (Sbuf I 0 c)) $$ Hc00
  iintro Hc00
  iapply (step_slot c (0, 0, 0) (Rbuf I c)) $$ Hs000
  iintro Hs000
  iapply (step_chunk c 0 0 (Sbuf I 0 c)) $$ Hc00
  iintro Hc00
  iapply (step_update I c (0, 0, 0) 0 rfl rfl) $$ Hc00
  iintro Hc00
  iapply (step_chunk c 0 1 (Sbuf I 0 c)) $$ Hc01
  iintro Hc01
  iapply (step_slot c (0, 0, 1) (Rbuf I c)) $$ Hs001
  iintro Hs001
  rw [wp_ret]
  imodintro
  iapply Hk
  isplitl [HO]; · iexact HO
  isplitl [Hn002]; · iexact Hn002
  isplitl [Hc02]; · iexact Hc02
  isplitl [Hs002]; · iexact Hs002
  isplitl [Hc00]; · iexact Hc00
  isplitl [Hs000]; · iexact Hs000
  isplitl [Hc01]; · iexact Hc01
  iexact Hs001

/-- Part 19: it adds what landed for batch 0, round 0, chunk 1 and adds what landed for batch 0, round 0, chunk 2. -/
theorem part19 (v5 : BitVec 32) {Q : (BitVec 32) → sProp 𝕄} :
    iprop(chunkPts c 0 1 (Sbuf I 0 c) ∗ chunkPts c 0 2 (Sbuf I 0 c) ∗ slotPts (0, 0, 2) c (Rbuf I c) ∗ (∀ v548, (chunkPts c 0 1 (Sbuf I 1 c) ∗ chunkPts c 0 2 (Sbuf I 1 c) ∗ slotPts (0, 0, 2) c (Rbuf I c)) -∗ Q (v548)))
      ⊢ wp frame (wpE (defs₀ (F := F)) 𝒱₀ (c : Thread nD τ) none) Set.univ (k0_part19_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v5 (k0_pay34 (chunkVal 0 1 (Sbuf I 0 c))) (slotVal 0 0 1 (Rbuf I c))) Q := by
  unfold k0_part19_skel
  simp only [semSignalWord, semWaitWord, Prog.lift, Prog.bind_op, Prog.bind_ret, Prog.pure_eq_ret, wp_deviceId]
  iintro ⟨Hc01, Hc02, Hs002, Hk⟩
  iapply (step_chunk c 0 1 (Sbuf I 0 c)) $$ Hc01
  iintro Hc01
  iapply (step_update I c (0, 0, 1) 0 rfl rfl) $$ Hc01
  iintro Hc01
  iapply (step_chunk c 0 2 (Sbuf I 0 c)) $$ Hc02
  iintro Hc02
  iapply (step_slot c (0, 0, 2) (Rbuf I c)) $$ Hs002
  iintro Hs002
  iapply (step_chunk c 0 2 (Sbuf I 0 c)) $$ Hc02
  iintro Hc02
  iapply (step_update I c (0, 0, 2) 0 rfl rfl) $$ Hc02
  iintro Hc02
  rw [wp_ret]
  imodintro
  iapply Hk
  isplitl [Hc01]; · iexact Hc01
  isplitl [Hc02]; · iexact Hc02
  iexact Hs002

/-- Part 20: it starts the copy of batch 0, round 1, chunk 0 and starts the copy of batch 0, round 1, chunk 1. -/
theorem part20 (v5 : BitVec 32) {Q : (Σ' (v562 : BitVec 32), BitVec 32) → sProp 𝕄} :
    iprop(ctx I K ∗ OW c (D c 12) ∗ Ready c (0, 1, 0) ∗ chunkPts c 0 0 (Sbuf I 1 c) ∗ Ready c (0, 1, 1) ∗ chunkPts c 0 1 (Sbuf I 1 c) ∗ (∀ v562, ∀ v576, (OW c (D c 10) ∗ Sent c (0, 1, 0) ∗ Sent c (0, 1, 1)) -∗ Q ⟨v562, v576⟩))
      ⊢ wp frame (wpE (defs₀ (F := F)) 𝒱₀ (c : Thread nD τ) none) Set.univ (k0_part20_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v5) Q := by
  unfold k0_part20_skel
  simp only [semSignalWord, semWaitWord, Prog.lift, Prog.bind_op, Prog.bind_ret, Prog.pure_eq_ret, wp_deviceId]
  iintro ⟨#Hctx, HO, Hn010, Hc00, Hn011, Hc01, Hk⟩
  iapply (step_copy I K c (0, 1, 0) 11 rfl 1 rfl (dev_copy6 c) rfl rfl rfl rfl) $$ [HO Hn010 Hc00]
  · isplitr; · iexact Hctx
    isplitl [HO]; · iexact HO
    isplitl [Hn010]; · iexact Hn010
    iexact Hc00
  iintro ⟨HO, Hn010⟩
  iapply (step_copy I K c (0, 1, 1) 10 rfl 1 rfl (dev_copy7 c) rfl rfl rfl rfl) $$ [HO Hn011 Hc01]
  · isplitr; · iexact Hctx
    isplitl [HO]; · iexact HO
    isplitl [Hn011]; · iexact Hn011
    iexact Hc01
  iintro ⟨HO, Hn011⟩
  rw [wp_ret]
  imodintro
  iapply Hk
  isplitl [HO]; · iexact HO
  isplitl [Hn010]; · iexact Hn010
  iexact Hn011

/-- Part 21: it starts the copy of batch 0, round 1, chunk 2, waits for the copy of batch 1, round 0, chunk 0 to have
    left and waits for the partner's copy of batch 1, round 0, chunk 0. -/
theorem part21 (v440 : BitVec 32) {Q : PUnit → sProp 𝕄} :
    iprop(ctx I K ∗ OW c (D c 10) ∗ Ready c (0, 1, 2) ∗ chunkPts c 0 2 (Sbuf I 1 c) ∗ Sent c (1, 0, 0) ∗ ((OW c (D c 9) ∗ Sent c (0, 1, 2) ∗ Done c (1, 0, 0) ∗ chunkPts c 1 0 (Sbuf I 0 c) ∗ slotPts (1, 0, 0) c (Rbuf I c)) -∗ Q ⟨⟩))
      ⊢ wp frame (wpE (defs₀ (F := F)) 𝒱₀ (c : Thread nD τ) none) Set.univ (k0_part21_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v440) Q := by
  unfold k0_part21_skel
  simp only [semSignalWord, semWaitWord, Prog.lift, Prog.bind_op, Prog.bind_ret, Prog.pure_eq_ret, wp_deviceId]
  iintro ⟨#Hctx, HO, Hn012, Hc02, Hn100, Hk⟩
  iapply (step_copy I K c (0, 1, 2) 9 rfl 1 rfl (dev_copy8 c) rfl rfl rfl rfl) $$ [HO Hn012 Hc02]
  · isplitr; · iexact Hctx
    isplitl [HO]; · iexact HO
    isplitl [Hn012]; · iexact Hn012
    iexact Hc02
  iintro ⟨HO, Hn012⟩
  iapply (step_left I K c (1, 0, 0) 9 (by omega) 0 rfl rfl rfl) $$ [HO Hn100]
  · isplitr; · iexact Hctx
    isplitl [HO]; · iexact HO
    iexact Hn100
  iintro ⟨HO, Hn100, Hc10⟩
  iapply (step_landed I K c (1, 0, 0) 9 (by decide) rfl rfl) $$ [HO Hn100]
  · isplitr; · iexact Hctx
    isplitl [HO]; · iexact HO
    iexact Hn100
  iintro ⟨HO, Hn100, Hs100⟩
  rw [wp_ret]
  imodintro
  iapply Hk
  isplitl [HO]; · iexact HO
  isplitl [Hn012]; · iexact Hn012
  isplitl [Hn100]; · iexact Hn100
  isplitl [Hc10]; · iexact Hc10
  iexact Hs100

/-- Part 22: it waits for the copy of batch 1, round 0, chunk 1 to have left and waits for the partner's copy of batch
    1, round 0, chunk 1. -/
theorem part22 (v454 : BitVec 32) {Q : PUnit → sProp 𝕄} :
    iprop(ctx I K ∗ OW c (D c 9) ∗ Sent c (1, 0, 1) ∗ ((OW c (D c 9) ∗ Done c (1, 0, 1) ∗ chunkPts c 1 1 (Sbuf I 0 c) ∗ slotPts (1, 0, 1) c (Rbuf I c)) -∗ Q ⟨⟩))
      ⊢ wp frame (wpE (defs₀ (F := F)) 𝒱₀ (c : Thread nD τ) none) Set.univ (k0_part22_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v454) Q := by
  unfold k0_part22_skel
  simp only [semSignalWord, semWaitWord, Prog.lift, Prog.bind_op, Prog.bind_ret, Prog.pure_eq_ret, wp_deviceId]
  iintro ⟨#Hctx, HO, Hn101, Hk⟩
  iapply (step_left I K c (1, 0, 1) 9 (by omega) 0 rfl rfl rfl) $$ [HO Hn101]
  · isplitr; · iexact Hctx
    isplitl [HO]; · iexact HO
    iexact Hn101
  iintro ⟨HO, Hn101, Hc11⟩
  iapply (step_landed I K c (1, 0, 1) 9 (by decide) rfl rfl) $$ [HO Hn101]
  · isplitr; · iexact Hctx
    isplitl [HO]; · iexact HO
    iexact Hn101
  iintro ⟨HO, Hn101, Hs101⟩
  rw [wp_ret]
  imodintro
  iapply Hk
  isplitl [HO]; · iexact HO
  isplitl [Hn101]; · iexact Hn101
  isplitl [Hc11]; · iexact Hc11
  iexact Hs101

/-- Part 23: it waits for the copy of batch 1, round 0, chunk 2 to have left, waits for the partner's copy of batch 1,
    round 0, chunk 2 and adds what landed for batch 1, round 0, chunk 0. -/
theorem part23 (v468 : BitVec 32) {Q : (FVec F S512x256 .bf16) → sProp 𝕄} :
    iprop(ctx I K ∗ OW c (D c 9) ∗ Sent c (1, 0, 2) ∗ chunkPts c 1 0 (Sbuf I 0 c) ∗ slotPts (1, 0, 0) c (Rbuf I c) ∗ chunkPts c 1 1 (Sbuf I 0 c) ∗ ((OW c (D c 9) ∗ Done c (1, 0, 2) ∗ chunkPts c 1 2 (Sbuf I 0 c) ∗ slotPts (1, 0, 2) c (Rbuf I c) ∗ chunkPts c 1 0 (Sbuf I 1 c) ∗ slotPts (1, 0, 0) c (Rbuf I c) ∗ chunkPts c 1 1 (Sbuf I 0 c)) -∗ Q (k0_pay38 (chunkVal 1 1 (Sbuf I 0 c)))))
      ⊢ wp frame (wpE (defs₀ (F := F)) 𝒱₀ (c : Thread nD τ) none) Set.univ (k0_part23_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v468) Q := by
  unfold k0_part23_skel
  simp only [semSignalWord, semWaitWord, Prog.lift, Prog.bind_op, Prog.bind_ret, Prog.pure_eq_ret, wp_deviceId]
  iintro ⟨#Hctx, HO, Hn102, Hc10, Hs100, Hc11, Hk⟩
  iapply (step_left I K c (1, 0, 2) 9 (by omega) 0 rfl rfl rfl) $$ [HO Hn102]
  · isplitr; · iexact Hctx
    isplitl [HO]; · iexact HO
    iexact Hn102
  iintro ⟨HO, Hn102, Hc12⟩
  iapply (step_landed I K c (1, 0, 2) 9 (by decide) rfl rfl) $$ [HO Hn102]
  · isplitr; · iexact Hctx
    isplitl [HO]; · iexact HO
    iexact Hn102
  iintro ⟨HO, Hn102, Hs102⟩
  iapply (step_chunk c 1 0 (Sbuf I 0 c)) $$ Hc10
  iintro Hc10
  iapply (step_slot c (1, 0, 0) (Rbuf I c)) $$ Hs100
  iintro Hs100
  iapply (step_chunk c 1 0 (Sbuf I 0 c)) $$ Hc10
  iintro Hc10
  iapply (step_update I c (1, 0, 0) 0 rfl rfl) $$ Hc10
  iintro Hc10
  iapply (step_chunk c 1 1 (Sbuf I 0 c)) $$ Hc11
  iintro Hc11
  rw [wp_ret]
  imodintro
  iapply Hk
  isplitl [HO]; · iexact HO
  isplitl [Hn102]; · iexact Hn102
  isplitl [Hc12]; · iexact Hc12
  isplitl [Hs102]; · iexact Hs102
  isplitl [Hc10]; · iexact Hc10
  isplitl [Hs100]; · iexact Hs100
  iexact Hc11

/-- Part 24: it adds what landed for batch 1, round 0, chunk 1 and adds what landed for batch 1, round 0, chunk 2. -/
theorem part24 (v5 : BitVec 32) {Q : (BitVec 32) → sProp 𝕄} :
    iprop(slotPts (1, 0, 1) c (Rbuf I c) ∗ chunkPts c 1 1 (Sbuf I 0 c) ∗ chunkPts c 1 2 (Sbuf I 0 c) ∗ slotPts (1, 0, 2) c (Rbuf I c) ∗ (∀ v656, (slotPts (1, 0, 1) c (Rbuf I c) ∗ chunkPts c 1 1 (Sbuf I 1 c) ∗ chunkPts c 1 2 (Sbuf I 1 c) ∗ slotPts (1, 0, 2) c (Rbuf I c)) -∗ Q (v656)))
      ⊢ wp frame (wpE (defs₀ (F := F)) 𝒱₀ (c : Thread nD τ) none) Set.univ (k0_part24_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v5 (k0_pay38 (chunkVal 1 1 (Sbuf I 0 c)))) Q := by
  unfold k0_part24_skel
  simp only [semSignalWord, semWaitWord, Prog.lift, Prog.bind_op, Prog.bind_ret, Prog.pure_eq_ret, wp_deviceId]
  iintro ⟨Hs101, Hc11, Hc12, Hs102, Hk⟩
  iapply (step_slot c (1, 0, 1) (Rbuf I c)) $$ Hs101
  iintro Hs101
  iapply (step_chunk c 1 1 (Sbuf I 0 c)) $$ Hc11
  iintro Hc11
  iapply (step_update I c (1, 0, 1) 0 rfl rfl) $$ Hc11
  iintro Hc11
  iapply (step_chunk c 1 2 (Sbuf I 0 c)) $$ Hc12
  iintro Hc12
  iapply (step_slot c (1, 0, 2) (Rbuf I c)) $$ Hs102
  iintro Hs102
  iapply (step_chunk c 1 2 (Sbuf I 0 c)) $$ Hc12
  iintro Hc12
  iapply (step_update I c (1, 0, 2) 0 rfl rfl) $$ Hc12
  iintro Hc12
  rw [wp_ret]
  imodintro
  iapply Hk
  isplitl [Hs101]; · iexact Hs101
  isplitl [Hc11]; · iexact Hc11
  isplitl [Hc12]; · iexact Hc12
  iexact Hs102

/-- Part 25: it starts the copy of batch 1, round 1, chunk 0 and starts the copy of batch 1, round 1, chunk 1. -/
theorem part25 (v5 : BitVec 32) {Q : (Σ' (v670 : BitVec 32) (v684 : BitVec 32) (v685 : BitVec 32), BitVec 32) → sProp 𝕄} :
    iprop(ctx I K ∗ OW c (D c 9) ∗ Ready c (1, 1, 0) ∗ chunkPts c 1 0 (Sbuf I 1 c) ∗ Ready c (1, 1, 1) ∗ chunkPts c 1 1 (Sbuf I 1 c) ∗ (∀ v670, ∀ v684, ∀ v685, (OW c (D c 7) ∗ Sent c (1, 1, 0) ∗ Sent c (1, 1, 1)) -∗ Q ⟨v670, v684, v685, 0#32⟩))
      ⊢ wp frame (wpE (defs₀ (F := F)) 𝒱₀ (c : Thread nD τ) none) Set.univ (k0_part25_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v5) Q := by
  unfold k0_part25_skel
  simp only [semSignalWord, semWaitWord, Prog.lift, Prog.bind_op, Prog.bind_ret, Prog.pure_eq_ret, wp_deviceId]
  iintro ⟨#Hctx, HO, Hn110, Hc10, Hn111, Hc11, Hk⟩
  iapply (step_copy I K c (1, 1, 0) 8 rfl 1 rfl (dev_copy9 c) rfl rfl rfl rfl) $$ [HO Hn110 Hc10]
  · isplitr; · iexact Hctx
    isplitl [HO]; · iexact HO
    isplitl [Hn110]; · iexact Hn110
    iexact Hc10
  iintro ⟨HO, Hn110⟩
  iapply (step_copy I K c (1, 1, 1) 7 rfl 1 rfl (dev_copy10 c) rfl rfl rfl rfl) $$ [HO Hn111 Hc11]
  · isplitr; · iexact Hctx
    isplitl [HO]; · iexact HO
    isplitl [Hn111]; · iexact Hn111
    iexact Hc11
  iintro ⟨HO, Hn111⟩
  rw [wp_ret]
  imodintro
  iapply Hk
  isplitl [HO]; · iexact HO
  isplitl [Hn110]; · iexact Hn110
  iexact Hn111

/-- Part 26: it starts the copy of batch 1, round 1, chunk 2 and waits for the copy of batch 0, round 1, chunk 0 to
    have left. -/
theorem part26 (v548 : BitVec 32) (v685 : BitVec 32) (c0_i32_750 : BitVec 32) {Q : PUnit → sProp 𝕄} :
    iprop(ctx I K ∗ OW c (D c 7) ∗ Ready c (1, 1, 2) ∗ chunkPts c 1 2 (Sbuf I 1 c) ∗ Sent c (0, 1, 0) ∗ ((OW c (D c 6) ∗ Sent c (1, 1, 2) ∗ Half c (0, 1, 0) ∗ chunkPts c 0 0 (Sbuf I 1 c)) -∗ Q ⟨⟩))
      ⊢ wp frame (wpE (defs₀ (F := F)) 𝒱₀ (c : Thread nD τ) none) Set.univ (k0_part26_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v548 v685 c0_i32_750) Q := by
  unfold k0_part26_skel
  simp only [semSignalWord, semWaitWord, Prog.lift, Prog.bind_op, Prog.bind_ret, Prog.pure_eq_ret, wp_deviceId]
  iintro ⟨#Hctx, HO, Hn112, Hc12, Hn010, Hk⟩
  iapply (step_copy I K c (1, 1, 2) 6 rfl 1 rfl (dev_copy11 c) rfl rfl rfl rfl) $$ [HO Hn112 Hc12]
  · isplitr; · iexact Hctx
    isplitl [HO]; · iexact HO
    isplitl [Hn112]; · iexact Hn112
    iexact Hc12
  iintro ⟨HO, Hn112⟩
  iapply (step_left I K c (0, 1, 0) 6 (by omega) 1 rfl rfl rfl) $$ [HO Hn010]
  · isplitr; · iexact Hctx
    isplitl [HO]; · iexact HO
    iexact Hn010
  iintro ⟨HO, Hn010, Hc00⟩
  rw [wp_ret]
  imodintro
  iapply Hk
  isplitl [HO]; · iexact HO
  isplitl [Hn112]; · iexact Hn112
  isplitl [Hn010]; · iexact Hn010
  iexact Hc00

/-- Part 27: it waits for the partner's copy of batch 0, round 1, chunk 0, waits for the copy of batch 0, round 1,
    chunk 1 to have left and waits for the partner's copy of batch 0, round 1, chunk 1. -/
theorem part27 (v562 : BitVec 32) {Q : PUnit → sProp 𝕄} :
    iprop(ctx I K ∗ OW c (D c 6) ∗ Half c (0, 1, 0) ∗ Sent c (0, 1, 1) ∗ ((OW c (D c 6) ∗ Done c (0, 1, 0) ∗ slotPts (0, 1, 0) c (Rbuf I c) ∗ Done c (0, 1, 1) ∗ chunkPts c 0 1 (Sbuf I 1 c) ∗ slotPts (0, 1, 1) c (Rbuf I c)) -∗ Q ⟨⟩))
      ⊢ wp frame (wpE (defs₀ (F := F)) 𝒱₀ (c : Thread nD τ) none) Set.univ (k0_part27_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v562) Q := by
  unfold k0_part27_skel
  simp only [semSignalWord, semWaitWord, Prog.lift, Prog.bind_op, Prog.bind_ret, Prog.pure_eq_ret, wp_deviceId]
  iintro ⟨#Hctx, HO, Hn010, Hn011, Hk⟩
  iapply (step_landed I K c (0, 1, 0) 6 (by decide) rfl rfl) $$ [HO Hn010]
  · isplitr; · iexact Hctx
    isplitl [HO]; · iexact HO
    iexact Hn010
  iintro ⟨HO, Hn010, Hs010⟩
  iapply (step_left I K c (0, 1, 1) 6 (by omega) 1 rfl rfl rfl) $$ [HO Hn011]
  · isplitr; · iexact Hctx
    isplitl [HO]; · iexact HO
    iexact Hn011
  iintro ⟨HO, Hn011, Hc01⟩
  iapply (step_landed I K c (0, 1, 1) 6 (by decide) rfl rfl) $$ [HO Hn011]
  · isplitr; · iexact Hctx
    isplitl [HO]; · iexact HO
    iexact Hn011
  iintro ⟨HO, Hn011, Hs011⟩
  rw [wp_ret]
  imodintro
  iapply Hk
  isplitl [HO]; · iexact HO
  isplitl [Hn010]; · iexact Hn010
  isplitl [Hs010]; · iexact Hs010
  isplitl [Hn011]; · iexact Hn011
  isplitl [Hc01]; · iexact Hc01
  iexact Hs011

/-- Part 28: it waits for the copy of batch 0, round 1, chunk 2 to have left, waits for the partner's copy of batch 0,
    round 1, chunk 2 and adds what landed for batch 0, round 1, chunk 0. -/
theorem part28 (v576 : BitVec 32) {Q : (FVec F S512x256 .bf16) → sProp 𝕄} :
    iprop(ctx I K ∗ OW c (D c 6) ∗ Sent c (0, 1, 2) ∗ chunkPts c 0 0 (Sbuf I 1 c) ∗ slotPts (0, 1, 0) c (Rbuf I c) ∗ chunkPts c 0 1 (Sbuf I 1 c) ∗ ((OW c (D c 6) ∗ Done c (0, 1, 2) ∗ chunkPts c 0 2 (Sbuf I 1 c) ∗ slotPts (0, 1, 2) c (Rbuf I c) ∗ chunkPts c 0 0 (Sbuf I 2 c) ∗ slotPts (0, 1, 0) c (Rbuf I c) ∗ chunkPts c 0 1 (Sbuf I 1 c)) -∗ Q (k0_pay42 (chunkVal 0 1 (Sbuf I 1 c)))))
      ⊢ wp frame (wpE (defs₀ (F := F)) 𝒱₀ (c : Thread nD τ) none) Set.univ (k0_part28_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v576) Q := by
  unfold k0_part28_skel
  simp only [semSignalWord, semWaitWord, Prog.lift, Prog.bind_op, Prog.bind_ret, Prog.pure_eq_ret, wp_deviceId]
  iintro ⟨#Hctx, HO, Hn012, Hc00, Hs010, Hc01, Hk⟩
  iapply (step_left I K c (0, 1, 2) 6 (by omega) 1 rfl rfl rfl) $$ [HO Hn012]
  · isplitr; · iexact Hctx
    isplitl [HO]; · iexact HO
    iexact Hn012
  iintro ⟨HO, Hn012, Hc02⟩
  iapply (step_landed I K c (0, 1, 2) 6 (by decide) rfl rfl) $$ [HO Hn012]
  · isplitr; · iexact Hctx
    isplitl [HO]; · iexact HO
    iexact Hn012
  iintro ⟨HO, Hn012, Hs012⟩
  iapply (step_chunk c 0 0 (Sbuf I 1 c)) $$ Hc00
  iintro Hc00
  iapply (step_slot c (0, 1, 0) (Rbuf I c)) $$ Hs010
  iintro Hs010
  iapply (step_chunk c 0 0 (Sbuf I 1 c)) $$ Hc00
  iintro Hc00
  iapply (step_update I c (0, 1, 0) 1 rfl rfl) $$ Hc00
  iintro Hc00
  iapply (step_chunk c 0 1 (Sbuf I 1 c)) $$ Hc01
  iintro Hc01
  rw [wp_ret]
  imodintro
  iapply Hk
  isplitl [HO]; · iexact HO
  isplitl [Hn012]; · iexact Hn012
  isplitl [Hc02]; · iexact Hc02
  isplitl [Hs012]; · iexact Hs012
  isplitl [Hc00]; · iexact Hc00
  isplitl [Hs010]; · iexact Hs010
  iexact Hc01

/-- Part 29: it adds what landed for batch 0, round 1, chunk 1 and adds what landed for batch 0, round 1, chunk 2. -/
theorem part29 (v5 : BitVec 32) {Q : (BitVec 32) → sProp 𝕄} :
    iprop(slotPts (0, 1, 1) c (Rbuf I c) ∗ chunkPts c 0 1 (Sbuf I 1 c) ∗ chunkPts c 0 2 (Sbuf I 1 c) ∗ slotPts (0, 1, 2) c (Rbuf I c) ∗ (∀ v764, (slotPts (0, 1, 1) c (Rbuf I c) ∗ chunkPts c 0 1 (Sbuf I 2 c) ∗ chunkPts c 0 2 (Sbuf I 2 c) ∗ slotPts (0, 1, 2) c (Rbuf I c)) -∗ Q (v764)))
      ⊢ wp frame (wpE (defs₀ (F := F)) 𝒱₀ (c : Thread nD τ) none) Set.univ (k0_part29_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v5 (k0_pay42 (chunkVal 0 1 (Sbuf I 1 c)))) Q := by
  unfold k0_part29_skel
  simp only [semSignalWord, semWaitWord, Prog.lift, Prog.bind_op, Prog.bind_ret, Prog.pure_eq_ret, wp_deviceId]
  iintro ⟨Hs011, Hc01, Hc02, Hs012, Hk⟩
  iapply (step_slot c (0, 1, 1) (Rbuf I c)) $$ Hs011
  iintro Hs011
  iapply (step_chunk c 0 1 (Sbuf I 1 c)) $$ Hc01
  iintro Hc01
  iapply (step_update I c (0, 1, 1) 1 rfl rfl) $$ Hc01
  iintro Hc01
  iapply (step_chunk c 0 2 (Sbuf I 1 c)) $$ Hc02
  iintro Hc02
  iapply (step_slot c (0, 1, 2) (Rbuf I c)) $$ Hs012
  iintro Hs012
  iapply (step_chunk c 0 2 (Sbuf I 1 c)) $$ Hc02
  iintro Hc02
  iapply (step_update I c (0, 1, 2) 1 rfl rfl) $$ Hc02
  iintro Hc02
  rw [wp_ret]
  imodintro
  iapply Hk
  isplitl [Hs011]; · iexact Hs011
  isplitl [Hc01]; · iexact Hc01
  isplitl [Hc02]; · iexact Hc02
  iexact Hs012

/-- Part 30: it starts the copy of batch 0, round 2, chunk 0 and starts the copy of batch 0, round 2, chunk 1. -/
theorem part30 (v5 : BitVec 32) {Q : (Σ' (v778 : BitVec 32), BitVec 32) → sProp 𝕄} :
    iprop(ctx I K ∗ OW c (D c 6) ∗ Ready c (0, 2, 0) ∗ chunkPts c 0 0 (Sbuf I 2 c) ∗ Ready c (0, 2, 1) ∗ chunkPts c 0 1 (Sbuf I 2 c) ∗ (∀ v778, ∀ v792, (OW c (D c 4) ∗ Sent c (0, 2, 0) ∗ Sent c (0, 2, 1)) -∗ Q ⟨v778, v792⟩))
      ⊢ wp frame (wpE (defs₀ (F := F)) 𝒱₀ (c : Thread nD τ) none) Set.univ (k0_part30_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v5) Q := by
  unfold k0_part30_skel
  simp only [semSignalWord, semWaitWord, Prog.lift, Prog.bind_op, Prog.bind_ret, Prog.pure_eq_ret, wp_deviceId]
  iintro ⟨#Hctx, HO, Hn020, Hc00, Hn021, Hc01, Hk⟩
  iapply (step_copy I K c (0, 2, 0) 5 rfl 2 rfl (dev_copy12 c) rfl rfl rfl rfl) $$ [HO Hn020 Hc00]
  · isplitr; · iexact Hctx
    isplitl [HO]; · iexact HO
    isplitl [Hn020]; · iexact Hn020
    iexact Hc00
  iintro ⟨HO, Hn020⟩
  iapply (step_copy I K c (0, 2, 1) 4 rfl 2 rfl (dev_copy13 c) rfl rfl rfl rfl) $$ [HO Hn021 Hc01]
  · isplitr; · iexact Hctx
    isplitl [HO]; · iexact HO
    isplitl [Hn021]; · iexact Hn021
    iexact Hc01
  iintro ⟨HO, Hn021⟩
  rw [wp_ret]
  imodintro
  iapply Hk
  isplitl [HO]; · iexact HO
  isplitl [Hn020]; · iexact Hn020
  iexact Hn021

/-- Part 31: it starts the copy of batch 0, round 2, chunk 2 and waits for the copy of batch 1, round 1, chunk 0 to
    have left. -/
theorem part31 (v656 : BitVec 32) (v792 : BitVec 32) {Q : PUnit → sProp 𝕄} :
    iprop(ctx I K ∗ OW c (D c 4) ∗ Ready c (0, 2, 2) ∗ chunkPts c 0 2 (Sbuf I 2 c) ∗ Sent c (1, 1, 0) ∗ ((OW c (D c 3) ∗ Sent c (0, 2, 2) ∗ Half c (1, 1, 0) ∗ chunkPts c 1 0 (Sbuf I 1 c)) -∗ Q ⟨⟩))
      ⊢ wp frame (wpE (defs₀ (F := F)) 𝒱₀ (c : Thread nD τ) none) Set.univ (k0_part31_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v656 v792) Q := by
  unfold k0_part31_skel
  simp only [semSignalWord, semWaitWord, Prog.lift, Prog.bind_op, Prog.bind_ret, Prog.pure_eq_ret, wp_deviceId]
  iintro ⟨#Hctx, HO, Hn022, Hc02, Hn110, Hk⟩
  iapply (step_copy I K c (0, 2, 2) 3 rfl 2 rfl (dev_copy14 c) rfl rfl rfl rfl) $$ [HO Hn022 Hc02]
  · isplitr; · iexact Hctx
    isplitl [HO]; · iexact HO
    isplitl [Hn022]; · iexact Hn022
    iexact Hc02
  iintro ⟨HO, Hn022⟩
  iapply (step_left I K c (1, 1, 0) 3 (by omega) 1 rfl rfl rfl) $$ [HO Hn110]
  · isplitr; · iexact Hctx
    isplitl [HO]; · iexact HO
    iexact Hn110
  iintro ⟨HO, Hn110, Hc10⟩
  rw [wp_ret]
  imodintro
  iapply Hk
  isplitl [HO]; · iexact HO
  isplitl [Hn022]; · iexact Hn022
  isplitl [Hn110]; · iexact Hn110
  iexact Hc10

/-- Part 32: it waits for the partner's copy of batch 1, round 1, chunk 0, waits for the copy of batch 1, round 1,
    chunk 1 to have left and waits for the partner's copy of batch 1, round 1, chunk 1. -/
theorem part32 (v670 : BitVec 32) {Q : PUnit → sProp 𝕄} :
    iprop(ctx I K ∗ OW c (D c 3) ∗ Half c (1, 1, 0) ∗ Sent c (1, 1, 1) ∗ ((OW c (D c 3) ∗ Done c (1, 1, 0) ∗ slotPts (1, 1, 0) c (Rbuf I c) ∗ Done c (1, 1, 1) ∗ chunkPts c 1 1 (Sbuf I 1 c) ∗ slotPts (1, 1, 1) c (Rbuf I c)) -∗ Q ⟨⟩))
      ⊢ wp frame (wpE (defs₀ (F := F)) 𝒱₀ (c : Thread nD τ) none) Set.univ (k0_part32_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v670) Q := by
  unfold k0_part32_skel
  simp only [semSignalWord, semWaitWord, Prog.lift, Prog.bind_op, Prog.bind_ret, Prog.pure_eq_ret, wp_deviceId]
  iintro ⟨#Hctx, HO, Hn110, Hn111, Hk⟩
  iapply (step_landed I K c (1, 1, 0) 3 (by decide) rfl rfl) $$ [HO Hn110]
  · isplitr; · iexact Hctx
    isplitl [HO]; · iexact HO
    iexact Hn110
  iintro ⟨HO, Hn110, Hs110⟩
  iapply (step_left I K c (1, 1, 1) 3 (by omega) 1 rfl rfl rfl) $$ [HO Hn111]
  · isplitr; · iexact Hctx
    isplitl [HO]; · iexact HO
    iexact Hn111
  iintro ⟨HO, Hn111, Hc11⟩
  iapply (step_landed I K c (1, 1, 1) 3 (by decide) rfl rfl) $$ [HO Hn111]
  · isplitr; · iexact Hctx
    isplitl [HO]; · iexact HO
    iexact Hn111
  iintro ⟨HO, Hn111, Hs111⟩
  rw [wp_ret]
  imodintro
  iapply Hk
  isplitl [HO]; · iexact HO
  isplitl [Hn110]; · iexact Hn110
  isplitl [Hs110]; · iexact Hs110
  isplitl [Hn111]; · iexact Hn111
  isplitl [Hc11]; · iexact Hc11
  iexact Hs111

/-- Part 33: it waits for the copy of batch 1, round 1, chunk 2 to have left, waits for the partner's copy of batch 1,
    round 1, chunk 2 and adds what landed for batch 1, round 1, chunk 0. -/
theorem part33 (v684 : BitVec 32) {Q : PUnit → sProp 𝕄} :
    iprop(ctx I K ∗ OW c (D c 3) ∗ Sent c (1, 1, 2) ∗ chunkPts c 1 0 (Sbuf I 1 c) ∗ slotPts (1, 1, 0) c (Rbuf I c) ∗ ((OW c (D c 3) ∗ Done c (1, 1, 2) ∗ chunkPts c 1 2 (Sbuf I 1 c) ∗ slotPts (1, 1, 2) c (Rbuf I c) ∗ chunkPts c 1 0 (Sbuf I 2 c) ∗ slotPts (1, 1, 0) c (Rbuf I c)) -∗ Q ⟨⟩))
      ⊢ wp frame (wpE (defs₀ (F := F)) 𝒱₀ (c : Thread nD τ) none) Set.univ (k0_part33_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v684) Q := by
  unfold k0_part33_skel
  simp only [semSignalWord, semWaitWord, Prog.lift, Prog.bind_op, Prog.bind_ret, Prog.pure_eq_ret, wp_deviceId]
  iintro ⟨#Hctx, HO, Hn112, Hc10, Hs110, Hk⟩
  iapply (step_left I K c (1, 1, 2) 3 (by omega) 1 rfl rfl rfl) $$ [HO Hn112]
  · isplitr; · iexact Hctx
    isplitl [HO]; · iexact HO
    iexact Hn112
  iintro ⟨HO, Hn112, Hc12⟩
  iapply (step_landed I K c (1, 1, 2) 3 (by decide) rfl rfl) $$ [HO Hn112]
  · isplitr; · iexact Hctx
    isplitl [HO]; · iexact HO
    iexact Hn112
  iintro ⟨HO, Hn112, Hs112⟩
  iapply (step_chunk c 1 0 (Sbuf I 1 c)) $$ Hc10
  iintro Hc10
  iapply (step_slot c (1, 1, 0) (Rbuf I c)) $$ Hs110
  iintro Hs110
  iapply (step_chunk c 1 0 (Sbuf I 1 c)) $$ Hc10
  iintro Hc10
  iapply (step_update I c (1, 1, 0) 1 rfl rfl) $$ Hc10
  iintro Hc10
  rw [wp_ret]
  imodintro
  iapply Hk
  isplitl [HO]; · iexact HO
  isplitl [Hn112]; · iexact Hn112
  isplitl [Hc12]; · iexact Hc12
  isplitl [Hs112]; · iexact Hs112
  isplitl [Hc10]; · iexact Hc10
  iexact Hs110

/-- Part 34: it adds what landed for batch 1, round 1, chunk 1 and adds what landed for batch 1, round 1, chunk 2. -/
theorem part34 (v5 : BitVec 32) {Q : (BitVec 32) → sProp 𝕄} :
    iprop(chunkPts c 1 1 (Sbuf I 1 c) ∗ slotPts (1, 1, 1) c (Rbuf I c) ∗ chunkPts c 1 2 (Sbuf I 1 c) ∗ slotPts (1, 1, 2) c (Rbuf I c) ∗ (∀ v872, (chunkPts c 1 1 (Sbuf I 2 c) ∗ slotPts (1, 1, 1) c (Rbuf I c) ∗ chunkPts c 1 2 (Sbuf I 2 c) ∗ slotPts (1, 1, 2) c (Rbuf I c)) -∗ Q (v872)))
      ⊢ wp frame (wpE (defs₀ (F := F)) 𝒱₀ (c : Thread nD τ) none) Set.univ (k0_part34_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v5) Q := by
  unfold k0_part34_skel
  simp only [semSignalWord, semWaitWord, Prog.lift, Prog.bind_op, Prog.bind_ret, Prog.pure_eq_ret, wp_deviceId]
  iintro ⟨Hc11, Hs111, Hc12, Hs112, Hk⟩
  iapply (step_chunk c 1 1 (Sbuf I 1 c)) $$ Hc11
  iintro Hc11
  iapply (step_slot c (1, 1, 1) (Rbuf I c)) $$ Hs111
  iintro Hs111
  iapply (step_chunk c 1 1 (Sbuf I 1 c)) $$ Hc11
  iintro Hc11
  iapply (step_update I c (1, 1, 1) 1 rfl rfl) $$ Hc11
  iintro Hc11
  iapply (step_chunk c 1 2 (Sbuf I 1 c)) $$ Hc12
  iintro Hc12
  iapply (step_slot c (1, 1, 2) (Rbuf I c)) $$ Hs112
  iintro Hs112
  iapply (step_chunk c 1 2 (Sbuf I 1 c)) $$ Hc12
  iintro Hc12
  iapply (step_update I c (1, 1, 2) 1 rfl rfl) $$ Hc12
  iintro Hc12
  rw [wp_ret]
  imodintro
  iapply Hk
  isplitl [Hc11]; · iexact Hc11
  isplitl [Hs111]; · iexact Hs111
  isplitl [Hc12]; · iexact Hc12
  iexact Hs112

/-- Part 35: it starts the copy of batch 1, round 2, chunk 0 and starts the copy of batch 1, round 2, chunk 1. -/
theorem part35 (v5 : BitVec 32) {Q : (Σ' (v886 : BitVec 32), BitVec 32) → sProp 𝕄} :
    iprop(ctx I K ∗ OW c (D c 3) ∗ Ready c (1, 2, 0) ∗ chunkPts c 1 0 (Sbuf I 2 c) ∗ Ready c (1, 2, 1) ∗ chunkPts c 1 1 (Sbuf I 2 c) ∗ (∀ v886, ∀ v900, (OW c (D c 1) ∗ Sent c (1, 2, 0) ∗ Sent c (1, 2, 1)) -∗ Q ⟨v886, v900⟩))
      ⊢ wp frame (wpE (defs₀ (F := F)) 𝒱₀ (c : Thread nD τ) none) Set.univ (k0_part35_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v5) Q := by
  unfold k0_part35_skel
  simp only [semSignalWord, semWaitWord, Prog.lift, Prog.bind_op, Prog.bind_ret, Prog.pure_eq_ret, wp_deviceId]
  iintro ⟨#Hctx, HO, Hn120, Hc10, Hn121, Hc11, Hk⟩
  iapply (step_copy I K c (1, 2, 0) 2 rfl 2 rfl (dev_copy15 c) rfl rfl rfl rfl) $$ [HO Hn120 Hc10]
  · isplitr; · iexact Hctx
    isplitl [HO]; · iexact HO
    isplitl [Hn120]; · iexact Hn120
    iexact Hc10
  iintro ⟨HO, Hn120⟩
  iapply (step_copy I K c (1, 2, 1) 1 rfl 2 rfl (dev_copy16 c) rfl rfl rfl rfl) $$ [HO Hn121 Hc11]
  · isplitr; · iexact Hctx
    isplitl [HO]; · iexact HO
    isplitl [Hn121]; · iexact Hn121
    iexact Hc11
  iintro ⟨HO, Hn121⟩
  rw [wp_ret]
  imodintro
  iapply Hk
  isplitl [HO]; · iexact HO
  isplitl [Hn120]; · iexact Hn120
  iexact Hn121

/-- Part 36: it starts the copy of batch 1, round 2, chunk 2 and waits for the copy of batch 0, round 2, chunk 0 to
    have left. -/
theorem part36 (v764 : BitVec 32) (v900 : BitVec 32) {Q : PUnit → sProp 𝕄} :
    iprop(ctx I K ∗ OW c (D c 1) ∗ Ready c (1, 2, 2) ∗ chunkPts c 1 2 (Sbuf I 2 c) ∗ Sent c (0, 2, 0) ∗ ((OW c (D c 0) ∗ Sent c (1, 2, 2) ∗ Half c (0, 2, 0) ∗ chunkPts c 0 0 (Sbuf I 2 c)) -∗ Q ⟨⟩))
      ⊢ wp frame (wpE (defs₀ (F := F)) 𝒱₀ (c : Thread nD τ) none) Set.univ (k0_part36_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 c v764 v900) Q := by
  unfold k0_part36_skel
  simp only [semSignalWord, semWaitWord, Prog.lift, Prog.bind_op, Prog.bind_ret, Prog.pure_eq_ret, wp_deviceId]
  iintro ⟨#Hctx, HO, Hn122, Hc12, Hn020, Hk⟩
  iapply (step_copy I K c (1, 2, 2) 0 rfl 2 rfl (dev_copy17 c) rfl rfl rfl rfl) $$ [HO Hn122 Hc12]
  · isplitr; · iexact Hctx
    isplitl [HO]; · iexact HO
    isplitl [Hn122]; · iexact Hn122
    iexact Hc12
  iintro ⟨HO, Hn122⟩
  iapply (step_left I K c (0, 2, 0) 0 (by omega) 2 rfl rfl rfl) $$ [HO Hn020]
  · isplitr; · iexact Hctx
    isplitl [HO]; · iexact HO
    iexact Hn020
  iintro ⟨HO, Hn020, Hc00⟩
  rw [wp_ret]
  imodintro
  iapply Hk
  isplitl [HO]; · iexact HO
  isplitl [Hn122]; · iexact Hn122
  isplitl [Hn020]; · iexact Hn020
  iexact Hc00

/-- Part 37: it waits for the partner's copy of batch 0, round 2, chunk 0, waits for the copy of batch 0, round 2,
    chunk 1 to have left and waits for the partner's copy of batch 0, round 2, chunk 1. -/
theorem part37 (v778 : BitVec 32) {Q : PUnit → sProp 𝕄} :
    iprop(ctx I K ∗ OW c (D c 0) ∗ Half c (0, 2, 0) ∗ Sent c (0, 2, 1) ∗ ((OW c (D c 0) ∗ Done c (0, 2, 0) ∗ slotPts (0, 2, 0) c (Rbuf I c) ∗ Done c (0, 2, 1) ∗ chunkPts c 0 1 (Sbuf I 2 c) ∗ slotPts (0, 2, 1) c (Rbuf I c)) -∗ Q ⟨⟩))
      ⊢ wp frame (wpE (defs₀ (F := F)) 𝒱₀ (c : Thread nD τ) none) Set.univ (k0_part37_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v778) Q := by
  unfold k0_part37_skel
  simp only [semSignalWord, semWaitWord, Prog.lift, Prog.bind_op, Prog.bind_ret, Prog.pure_eq_ret, wp_deviceId]
  iintro ⟨#Hctx, HO, Hn020, Hn021, Hk⟩
  iapply (step_landed I K c (0, 2, 0) 0 (by decide) rfl rfl) $$ [HO Hn020]
  · isplitr; · iexact Hctx
    isplitl [HO]; · iexact HO
    iexact Hn020
  iintro ⟨HO, Hn020, Hs020⟩
  iapply (step_left I K c (0, 2, 1) 0 (by omega) 2 rfl rfl rfl) $$ [HO Hn021]
  · isplitr; · iexact Hctx
    isplitl [HO]; · iexact HO
    iexact Hn021
  iintro ⟨HO, Hn021, Hc01⟩
  iapply (step_landed I K c (0, 2, 1) 0 (by decide) rfl rfl) $$ [HO Hn021]
  · isplitr; · iexact Hctx
    isplitl [HO]; · iexact HO
    iexact Hn021
  iintro ⟨HO, Hn021, Hs021⟩
  rw [wp_ret]
  imodintro
  iapply Hk
  isplitl [HO]; · iexact HO
  isplitl [Hn020]; · iexact Hn020
  isplitl [Hs020]; · iexact Hs020
  isplitl [Hn021]; · iexact Hn021
  isplitl [Hc01]; · iexact Hc01
  iexact Hs021

/-- Part 38: it waits for the copy of batch 0, round 2, chunk 2 to have left and waits for the partner's copy of batch
    0, round 2, chunk 2. -/
theorem part38 (v792 : BitVec 32) {Q : (FVec F S1x512x256 .bf16) → sProp 𝕄} :
    iprop(ctx I K ∗ OW c (D c 0) ∗ Sent c (0, 2, 2) ∗ chunkPts c 0 0 (Sbuf I 2 c) ∗ slotPts (0, 2, 0) c (Rbuf I c) ∗ ((OW c (D c 0) ∗ Done c (0, 2, 2) ∗ chunkPts c 0 2 (Sbuf I 2 c) ∗ slotPts (0, 2, 2) c (Rbuf I c) ∗ chunkPts c 0 0 (Sbuf I 2 c) ∗ slotPts (0, 2, 0) c (Rbuf I c)) -∗ Q (k0_pay48 (chunkVal 0 0 (Sbuf I 2 c)) (slotVal 0 2 0 (Rbuf I c)))))
      ⊢ wp frame (wpE (defs₀ (F := F)) 𝒱₀ (c : Thread nD τ) none) Set.univ (k0_part38_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v792) Q := by
  unfold k0_part38_skel
  simp only [semSignalWord, semWaitWord, Prog.lift, Prog.bind_op, Prog.bind_ret, Prog.pure_eq_ret, wp_deviceId]
  iintro ⟨#Hctx, HO, Hn022, Hc00, Hs020, Hk⟩
  iapply (step_left I K c (0, 2, 2) 0 (by omega) 2 rfl rfl rfl) $$ [HO Hn022]
  · isplitr; · iexact Hctx
    isplitl [HO]; · iexact HO
    iexact Hn022
  iintro ⟨HO, Hn022, Hc02⟩
  iapply (step_landed I K c (0, 2, 2) 0 (by decide) rfl rfl) $$ [HO Hn022]
  · isplitr; · iexact Hctx
    isplitl [HO]; · iexact HO
    iexact Hn022
  iintro ⟨HO, Hn022, Hs022⟩
  iapply (step_chunk c 0 0 (Sbuf I 2 c)) $$ Hc00
  iintro Hc00
  iapply (step_slot c (0, 2, 0) (Rbuf I c)) $$ Hs020
  iintro Hs020
  iapply (step_chunk c 0 0 (Sbuf I 2 c)) $$ Hc00
  iintro Hc00
  rw [wp_ret]
  imodintro
  iapply Hk
  isplitl [HO]; · iexact HO
  isplitl [Hn022]; · iexact Hn022
  isplitl [Hc02]; · iexact Hc02
  isplitl [Hs022]; · iexact Hs022
  isplitl [Hc00]; · iexact Hc00
  iexact Hs020

/-- Part 39: it adds what landed for batch 0, round 2, chunk 0, adds what landed for batch 0, round 2, chunk 1, adds
    what landed for batch 0, round 2, chunk 2 and stores batch 0 of the result. -/
theorem part39 (f : FVec F S2x512x768 .f32) {Q : PUnit → sProp 𝕄} :
    iprop(chunkPts c 0 0 (Sbuf I 2 c) ∗ chunkPts c 0 1 (Sbuf I 2 c) ∗ slotPts (0, 2, 1) c (Rbuf I c) ∗ chunkPts c 0 2 (Sbuf I 2 c) ∗ slotPts (0, 2, 2) c (Rbuf I c) ∗ oPts c f ∗ ((slotPts (0, 2, 1) c (Rbuf I c) ∗ slotPts (0, 2, 2) c (Rbuf I c) ∗ slabPts c 0 (Sbuf I 3 c) ∗ oPts c ((oM.access (slabRect 0)).write (Elt F) f (outPay (sM.view.readAt (Elt F) (slabRect 0).toLoadRect (Sbuf I 3 c))) Finset.univ)) -∗ Q ⟨⟩))
      ⊢ wp frame (wpE (defs₀ (F := F)) 𝒱₀ (c : Thread nD τ) none) Set.univ (k0_part39_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 (k0_pay48 (chunkVal 0 0 (Sbuf I 2 c)) (slotVal 0 2 0 (Rbuf I c)))) Q := by
  unfold k0_part39_skel
  simp only [semSignalWord, semWaitWord, Prog.lift, Prog.bind_op, Prog.bind_ret, Prog.pure_eq_ret, wp_deviceId]
  iintro ⟨Hc00, Hc01, Hs021, Hc02, Hs022, Ho, Hk⟩
  iapply (step_update I c (0, 2, 0) 2 rfl rfl) $$ Hc00
  iintro Hc00
  iapply (step_chunk c 0 1 (Sbuf I 2 c)) $$ Hc01
  iintro Hc01
  iapply (step_slot c (0, 2, 1) (Rbuf I c)) $$ Hs021
  iintro Hs021
  iapply (step_chunk c 0 1 (Sbuf I 2 c)) $$ Hc01
  iintro Hc01
  iapply (step_update I c (0, 2, 1) 2 rfl rfl) $$ Hc01
  iintro Hc01
  iapply (step_chunk c 0 2 (Sbuf I 2 c)) $$ Hc02
  iintro Hc02
  iapply (step_slot c (0, 2, 2) (Rbuf I c)) $$ Hs022
  iintro Hs022
  iapply (step_chunk c 0 2 (Sbuf I 2 c)) $$ Hc02
  iintro Hc02
  iapply (step_update I c (0, 2, 2) 2 rfl rfl) $$ Hc02
  iintro Hc02
  ihave Hb := (Entails.of_eq (slab_eq_chunks c 0 (Sbuf I 3 c)).symm) $$ [Hc00 Hc01 Hc02]
  · unfold chunks
    isplitl [Hc00]; · iexact Hc00
    isplitl [Hc01] <;> iassumption
  iapply (step_slab c 0 (Sbuf I 3 c)) $$ Hb
  iintro Hb0
  iapply (step_out_load c 0 f) $$ Ho
  iintro Ho %w
  iapply (step_out_store I c 0 f rfl) $$ Ho
  iintro Ho
  rw [wp_ret]
  imodintro
  iapply Hk
  isplitl [Hs021]; · iexact Hs021
  isplitl [Hs022]; · iexact Hs022
  isplitl [Hb0]; · iexact Hb0
  iexact Ho

/-- Part 40: it waits for the copy of batch 1, round 2, chunk 0 to have left and waits for the partner's copy of batch
    1, round 2, chunk 0. -/
theorem part40 (v872 : BitVec 32) {Q : PUnit → sProp 𝕄} :
    iprop(ctx I K ∗ OW c (D c 0) ∗ Sent c (1, 2, 0) ∗ ((OW c (D c 0) ∗ Done c (1, 2, 0) ∗ chunkPts c 1 0 (Sbuf I 2 c) ∗ slotPts (1, 2, 0) c (Rbuf I c)) -∗ Q ⟨⟩))
      ⊢ wp frame (wpE (defs₀ (F := F)) 𝒱₀ (c : Thread nD τ) none) Set.univ (k0_part40_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v872) Q := by
  unfold k0_part40_skel
  simp only [semSignalWord, semWaitWord, Prog.lift, Prog.bind_op, Prog.bind_ret, Prog.pure_eq_ret, wp_deviceId]
  iintro ⟨#Hctx, HO, Hn120, Hk⟩
  iapply (step_left I K c (1, 2, 0) 0 (by omega) 2 rfl rfl rfl) $$ [HO Hn120]
  · isplitr; · iexact Hctx
    isplitl [HO]; · iexact HO
    iexact Hn120
  iintro ⟨HO, Hn120, Hc10⟩
  iapply (step_landed I K c (1, 2, 0) 0 (by decide) rfl rfl) $$ [HO Hn120]
  · isplitr; · iexact Hctx
    isplitl [HO]; · iexact HO
    iexact Hn120
  iintro ⟨HO, Hn120, Hs120⟩
  rw [wp_ret]
  imodintro
  iapply Hk
  isplitl [HO]; · iexact HO
  isplitl [Hn120]; · iexact Hn120
  isplitl [Hc10]; · iexact Hc10
  iexact Hs120

/-- Part 41: it waits for the copy of batch 1, round 2, chunk 1 to have left, waits for the partner's copy of batch 1,
    round 2, chunk 1 and waits for the copy of batch 1, round 2, chunk 2 to have left. -/
theorem part41 (v886 : BitVec 32) {Q : PUnit → sProp 𝕄} :
    iprop(ctx I K ∗ OW c (D c 0) ∗ Sent c (1, 2, 1) ∗ Sent c (1, 2, 2) ∗ ((OW c (D c 0) ∗ Done c (1, 2, 1) ∗ chunkPts c 1 1 (Sbuf I 2 c) ∗ slotPts (1, 2, 1) c (Rbuf I c) ∗ Half c (1, 2, 2) ∗ chunkPts c 1 2 (Sbuf I 2 c)) -∗ Q ⟨⟩))
      ⊢ wp frame (wpE (defs₀ (F := F)) 𝒱₀ (c : Thread nD τ) none) Set.univ (k0_part41_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v886) Q := by
  unfold k0_part41_skel
  simp only [semSignalWord, semWaitWord, Prog.lift, Prog.bind_op, Prog.bind_ret, Prog.pure_eq_ret, wp_deviceId]
  iintro ⟨#Hctx, HO, Hn121, Hn122, Hk⟩
  iapply (step_left I K c (1, 2, 1) 0 (by omega) 2 rfl rfl rfl) $$ [HO Hn121]
  · isplitr; · iexact Hctx
    isplitl [HO]; · iexact HO
    iexact Hn121
  iintro ⟨HO, Hn121, Hc11⟩
  iapply (step_landed I K c (1, 2, 1) 0 (by decide) rfl rfl) $$ [HO Hn121]
  · isplitr; · iexact Hctx
    isplitl [HO]; · iexact HO
    iexact Hn121
  iintro ⟨HO, Hn121, Hs121⟩
  iapply (step_left I K c (1, 2, 2) 0 (by omega) 2 rfl rfl rfl) $$ [HO Hn122]
  · isplitr; · iexact Hctx
    isplitl [HO]; · iexact HO
    iexact Hn122
  iintro ⟨HO, Hn122, Hc12⟩
  rw [wp_ret]
  imodintro
  iapply Hk
  isplitl [HO]; · iexact HO
  isplitl [Hn121]; · iexact Hn121
  isplitl [Hc11]; · iexact Hc11
  isplitl [Hs121]; · iexact Hs121
  isplitl [Hn122]; · iexact Hn122
  iexact Hc12

/-- Part 42: it waits for the partner's copy of batch 1, round 2, chunk 2, adds what landed for batch 1, round 2,
    chunk 0 and adds what landed for batch 1, round 2, chunk 1. -/
theorem part42 (v900 : BitVec 32) {Q : (FVec F S512x256 .bf16) → sProp 𝕄} :
    iprop(ctx I K ∗ OW c (D c 0) ∗ Half c (1, 2, 2) ∗ chunkPts c 1 0 (Sbuf I 2 c) ∗ slotPts (1, 2, 0) c (Rbuf I c) ∗ chunkPts c 1 1 (Sbuf I 2 c) ∗ slotPts (1, 2, 1) c (Rbuf I c) ∗ chunkPts c 1 2 (Sbuf I 2 c) ∗ ((OW c (D c 0) ∗ Done c (1, 2, 2) ∗ slotPts (1, 2, 2) c (Rbuf I c) ∗ chunkPts c 1 0 (Sbuf I 3 c) ∗ slotPts (1, 2, 0) c (Rbuf I c) ∗ chunkPts c 1 1 (Sbuf I 3 c) ∗ slotPts (1, 2, 1) c (Rbuf I c) ∗ chunkPts c 1 2 (Sbuf I 2 c)) -∗ Q (k0_pay54 (chunkVal 1 2 (Sbuf I 2 c)))))
      ⊢ wp frame (wpE (defs₀ (F := F)) 𝒱₀ (c : Thread nD τ) none) Set.univ (k0_part42_skel xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3 v900) Q := by
  unfold k0_part42_skel
  simp only [semSignalWord, semWaitWord, Prog.lift, Prog.bind_op, Prog.bind_ret, Prog.pure_eq_ret, wp_deviceId]
  iintro ⟨#Hctx, HO, Hn122, Hc10, Hs120, Hc11, Hs121, Hc12, Hk⟩
  iapply (step_landed I K c (1, 2, 2) 0 (by decide) rfl rfl) $$ [HO Hn122]
  · isplitr; · iexact Hctx
    isplitl [HO]; · iexact HO
    iexact Hn122
  iintro ⟨HO, Hn122, Hs122⟩
  iapply (step_chunk c 1 0 (Sbuf I 2 c)) $$ Hc10
  iintro Hc10
  iapply (step_slot c (1, 2, 0) (Rbuf I c)) $$ Hs120
  iintro Hs120
  iapply (step_chunk c 1 0 (Sbuf I 2 c)) $$ Hc10
  iintro Hc10
  iapply (step_update I c (1, 2, 0) 2 rfl rfl) $$ Hc10
  iintro Hc10
  iapply (step_chunk c 1 1 (Sbuf I 2 c)) $$ Hc11
  iintro Hc11
  iapply (step_slot c (1, 2, 1) (Rbuf I c)) $$ Hs121
  iintro Hs121
  iapply (step_chunk c 1 1 (Sbuf I 2 c)) $$ Hc11
  iintro Hc11
  iapply (step_update I c (1, 2, 1) 2 rfl rfl) $$ Hc11
  iintro Hc11
  iapply (step_chunk c 1 2 (Sbuf I 2 c)) $$ Hc12
  iintro Hc12
  rw [wp_ret]
  imodintro
  iapply Hk
  isplitl [HO]; · iexact HO
  isplitl [Hn122]; · iexact Hn122
  isplitl [Hs122]; · iexact Hs122
  isplitl [Hc10]; · iexact Hc10
  isplitl [Hs120]; · iexact Hs120
  isplitl [Hc11]; · iexact Hc11
  isplitl [Hs121]; · iexact Hs121
  iexact Hc12

end Cert.RingKernelIdeal

end
-- ==== Proof.RingKernelIdeal.Compute.lean ====
/-
# The partial result, as the printed payloads

The kernel computes a batch's partial result in eight steps, one a head, cut at places of no meaning into payloads.
Composed, the payloads are `partial0`, head by head.
-/
module

public import proofs.«01_k».proof.Proof.RingKernelIdeal.Vals

@[expose] public section

noncomputable section

namespace Cert.RingKernelIdeal

open Cert.KernelIdeal Cert.KernelIdeal.Gen
open Idealize.ShloMosaic
open Idealize.ShloMosaic.TcCoe

variable {F : FTy → Type} [FloatOps F]

section Batch0
variable (i : Ins F) (c : Dev nD)

/-- The first batch's running sum after its first four heads, as part 4 leaves it. -/
def s0_1 : FVec F S512x768 .f32 := k0_pay6 k0_pay2 (k0_pay3 (wqAt i c)) (xAt i 0) (kAt i 0 0) (vAt i 0 0) (woAt i c 0)
def s0_2 : FVec F S512x768 .f32 := k0_pay7 k0_pay2 (queries i c 0) k0_pay5 (s0_1 i c) (kAt i 0 1) (vAt i 0 1) (woAt i c 1)
def s0_4 : FVec F S512x768 .f32 :=
  k0_pay10 k0_pay2 (queries i c 0) (s0_2 i c) (k0_pay8 k0_pay2 (queries i c 0) (kAt i 0 2)) (k0_pay9 k0_pay2 (queries i c 0) (kAt i 0 2) (vAt i 0 2))
    (woAt i c 2) (kAt i 0 3) (vAt i 0 3) (woAt i c 3)
def s0_5 : FVec F S512x768 .f32 :=
  k0_pay13 k0_pay2 (s0_4 i c) (k0_pay11 (queries i c 0)) (k0_pay12 (kAt i 0 4)) (constant S512x512 .f32 0x00000000#32) (vAt i 0 4) (woAt i c 4)
def s0_7 : FVec F S512x768 .f32 :=
  k0_pay15 k0_pay2 (queries i c 0) (s0_5 i c) (k0_pay14 k0_pay2 (queries i c 0) (kAt i 0 5) (vAt i 0 5)) (woAt i c 5) (kAt i 0 6) (vAt i 0 6) (woAt i c 6)

theorem s0_1_eq : s0_1 i c = headOut i c 0 0 := rfl
theorem s0_2_eq : s0_2 i c = addf (addf k0_pay5 (headOut i c 0 0)) (headOut i c 0 1) := rfl
theorem s0_4_eq : s0_4 i c = addf (addf (s0_2 i c) (headOut i c 0 2)) (headOut i c 0 3) := rfl
theorem s0_5_eq : s0_5 i c = addf (s0_4 i c) (headOut i c 0 4) := rfl
theorem s0_7_eq : s0_7 i c = addf (addf (s0_5 i c) (headOut i c 0 5)) (headOut i c 0 6) := rfl

theorem pay17_eq : k0_pay17 (s0_7 i c) (k0_pay16 k0_pay2 (queries i c 0) (kAt i 0 7)) (vAt i 0 7) (woAt i c 7) = partial0 i c 0 := by
  have h : k0_pay17 (s0_7 i c) (k0_pay16 k0_pay2 (queries i c 0) (kAt i 0 7)) (vAt i 0 7) (woAt i c 7)
      = shapeCast S1x512x768 (truncf .bf16 (addf (s0_7 i c) (headOut i c 0 7)) bitsLt_bf16_f32) shapeCasts_S512x768_S1x512x768 := rfl
  rw [h, s0_7_eq, s0_5_eq, s0_4_eq, s0_2_eq]
  rfl

end Batch0

section Batch1
variable (i : Ins F) (c : Dev nD)

def s1_1 : FVec F S512x768 .f32 := k0_pay19 k0_pay2 (k0_pay3 (wqAt i c)) (xAt i 1) (kAt i 1 0) (vAt i 1 0) (woAt i c 0)
def s1_2 : FVec F S512x768 .f32 := k0_pay21 k0_pay2 (s1_1 i c) (k0_pay20 (k0_pay3 (wqAt i c)) (xAt i 1)) (kAt i 1 1) (vAt i 1 1) (woAt i c 1)
def s1_4 : FVec F S512x768 .f32 :=
  k0_pay25 k0_pay2 (queries i c 1) (s1_2 i c) (k0_pay23 k0_pay2 (queries i c 1) (kAt i 1 2) (vAt i 1 2)) (k0_pay24 k0_pay2 (queries i c 1) (kAt i 1 2))
    (woAt i c 2) (kAt i 1 3) (vAt i 1 3) (woAt i c 3)
def s1_5 : FVec F S512x768 .f32 :=
  k0_pay27 k0_pay2 (s1_4 i c) (k0_pay26 (queries i c 1) (kAt i 1 4)) (Scalar.ofBits .f32 0xCE6E6B28#32) (vAt i 1 4) (woAt i c 4)
def s1_7 : FVec F S512x768 .f32 :=
  k0_pay29 k0_pay2 (queries i c 1) (s1_5 i c) (k0_pay28 k0_pay2 (queries i c 1) (kAt i 1 5) (vAt i 1 5)) (woAt i c 5) (kAt i 1 6) (vAt i 1 6) (woAt i c 6)

theorem queries1_eq : k0_pay18 (k0_pay3 (wqAt i c)) (xAt i 1) = queries i c 1 := rfl
theorem s1_1_eq : s1_1 i c = addf k0_pay5 (headOut i c 1 0) := rfl
theorem s1_2_eq : s1_2 i c = addf (s1_1 i c) (headOut i c 1 1) := rfl
theorem s1_4_eq : s1_4 i c = addf (addf (s1_2 i c) (headOut i c 1 2)) (headOut i c 1 3) := rfl
theorem s1_5_eq : s1_5 i c = addf (s1_4 i c) (headOut i c 1 4) := rfl
theorem s1_7_eq : s1_7 i c = addf (addf (s1_5 i c) (headOut i c 1 5)) (headOut i c 1 6) := rfl

theorem pay32_eq : k0_pay32 (s1_7 i c) (k0_pay30 k0_pay2 (queries i c 1) (kAt i 1 7)) (k0_pay31 (vAt i 1 7)) (woAt i c 7) = partial0 i c 1 := by
  have h : k0_pay32 (s1_7 i c) (k0_pay30 k0_pay2 (queries i c 1) (kAt i 1 7)) (k0_pay31 (vAt i 1 7)) (woAt i c 7)
      = shapeCast S1x512x768 (truncf .bf16 (addf (s1_7 i c) (headOut i c 1 7)) bitsLt_bf16_f32) shapeCasts_S512x768_S1x512x768 := rfl
  rw [h, s1_7_eq, s1_5_eq, s1_4_eq, s1_2_eq, s1_1_eq]
  rfl

end Batch1

end Cert.RingKernelIdeal

end
-- ==== Proof.RingKernelIdeal.Body.lean ====
/-
# The body, composed

The parts in program order, from what the launch hands a device to the result: every copy done, the partial sums of
the last round in the scratch buffer, and their widening in the result buffer.
-/
module

public import proofs.«01_k».proof.Proof.RingKernelIdeal.PartsA
public import proofs.«01_k».proof.Proof.RingKernelIdeal.PartsB
public import proofs.«01_k».proof.Proof.RingKernelIdeal.Compute

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Cell → ℕ) (c : Dev nD)

omit [FloatOps F] in
/-- A conjunction over the copies, spelled out in the order they are made. -/
theorem copies_list (Φ : Copy → sProp 𝕄) : bigSep Finset.univ Φ = iprop(Φ (0, 0, 0) ∗ Φ (0, 0, 1) ∗ Φ (0, 0, 2) ∗ Φ (1, 0, 0) ∗ Φ (1, 0, 1) ∗ Φ (1, 0, 2) ∗ Φ (0, 1, 0) ∗ Φ (0, 1, 1) ∗ Φ (0, 1, 2) ∗ Φ (1, 1, 0) ∗ Φ (1, 1, 1) ∗ Φ (1, 1, 2) ∗ Φ (0, 2, 0) ∗ Φ (0, 2, 1) ∗ Φ (0, 2, 2) ∗ Φ (1, 2, 0) ∗ Φ (1, 2, 1) ∗ Φ (1, 2, 2)) := by
  rw [bigSep_univ_eq_bigSepL [(0, 0, 0), (0, 0, 1), (0, 0, 2), (1, 0, 0), (1, 0, 1), (1, 0, 2), (0, 1, 0), (0, 1, 1), (0, 1, 2), (1, 1, 0), (1, 1, 1), (1, 1, 2), (0, 2, 0), (0, 2, 1), (0, 2, 2), (1, 2, 0), (1, 2, 1), (1, 2, 2)] (by decide) (by decide)]
  simp only [bigSepL_cons_cons, bigSepL_singleton]
  rfl

omit [FloatOps F] in
/-- A conjunction over the three axes, spelled out. -/
theorem axes_list (Φ : Fin 3 → sProp 𝕄) : bigSep Finset.univ Φ = iprop(Φ 0 ∗ Φ 1 ∗ Φ 2) :=
  bigSep_univ_eq_bigSepL [0, 1, 2] (by decide) (by decide) Φ

omit [FloatOps F] in
/-- Once every partner's slot is here, every copy is ready. -/
theorem all_ready : iprop((bigSep Finset.univ fun n => Start c n) ∗ bigSep Finset.univ fun n : Copy => iprop(∃ f, slotPts n (partner n c) f))
    ⊢ (bigSep Finset.univ fun n => Ready c n : sProp 𝕄) := by
  unfold Ready
  rw [bigSep_sep']

/-- What a device holds when its body starts. -/
def bodyStart : sProp 𝕄 :=
  iprop(OW c (O₀ c) ∗ ins I c ∗ (∃ f, oPts c f) ∗ (∃ f, sM.view.loc (c : Thread nD τ) ↦{fullShare} f)
    ∗ (bigSep Finset.univ fun a : Fin 3 => iprop(dutyTok ER (barCell (peer a c)) 0 a ∗ lent a c))
    ∗ cred (tallyAt (barCell c) () 3) ∗ atPos ER (barCell c) 0 ∅ 0 ∗ bigSep Finset.univ fun n => Start c n)

/-- What it holds when its body ends. -/
def bodyEnd : sProp 𝕄 :=
  iprop(OW c (D c 0) ∗ ins I c ∗ oPts c (outVal I c) ∗ (sM.view.loc (c : Thread nD τ) ↦{fullShare} Sbuf I 3 c)
    ∗ (bigSep Finset.univ fun n => Done c n) ∗ (bigSep Finset.univ fun n : Copy => slotPts n c (Rbuf I c)) ∗ semVal (barCell c) 0)

set_option maxHeartbeats 4000000 in
/-- The body runs from `bodyStart` to `bodyEnd`. -/
theorem sound_body (Q : PUnit → sProp 𝕄) :
    iprop(ctx I K ∗ bodyStart I c ∗ (bodyEnd I c -∗ Q ⟨⟩))
      ⊢ wp frame (wpE (defs₀ (F := F)) 𝒱₀ (c : Thread nD τ) none) Set.univ
          (cc0_body xM (Memref.isWhole_whole _) wqM (Memref.isWhole_whole _) kM (Memref.isWhole_whole _) vM (Memref.isWhole_whole _) woM (Memref.isWhole_whole _) oM (Memref.isWhole_whole _) sM (Memref.isWhole_whole _) rM (Memref.isWhole_whole _) cc0_scratch2 cc0_scratch3) Q := by
  rw [cc0_body_eq_skeleton]
  unfold cc0_body_skel
  rw [wp_bind, k0_part43_eq_skeleton]
  unfold k0_part43_skel
  unfold bodyStart
  iintro ⟨#Hctx, ⟨HO, Hi, ⟨%fo, Ho⟩, ⟨%fs, Hsc⟩, Hsig, Hcr, Hat, Hst⟩, Hend⟩
  ihave Hsc' := (Entails.of_eq (scratch_eq_slabs c fs)) $$ Hsc
  icases Hsc' with ⟨Hb0, Hb1⟩
  ihave Hsig' := (Entails.of_eq (axes_list fun a => iprop(dutyTok ER (barCell (peer a c)) 0 a ∗ lent a c))) $$ Hsig
  icases Hsig' with ⟨⟨Ht0, Hl0⟩, ⟨Ht1, Hl1⟩, ⟨Ht2, Hl2⟩⟩
  rw [wp_bind, k0_part1_eq_skeleton]
  iapply (part1 I K c)
  isplitr; · iexact Hctx
  isplitl [Hi]; · iexact Hi
  isplitl [HO]; · iexact HO
  isplitl [Ht0]; · iexact Ht0
  isplitl [Hl0]; · iexact Hl0
  iintro %v2 %v5 %v35 ⟨Hi, HO⟩
  dsimp only
  rw [wp_bind, k0_part2_eq_skeleton]
  iapply (part2 I K c)
  isplitr; · iexact Hctx
  isplitl [HO]; · iexact HO
  isplitl [Ht1]; · iexact Ht1
  isplitl [Hl1]; · iexact Hl1
  isplitl [Ht2]; · iexact Ht2
  isplitl [Hl2]; · iexact Hl2
  isplitl [Hi]; · iexact Hi
  iintro ⟨HO, Hi⟩
  dsimp only
  rw [wp_bind, k0_part3_eq_skeleton]
  iapply (part3 I c)
  isplitl [Hi]; · iexact Hi
  iintro Hi
  dsimp only
  rw [wp_bind, k0_part4_eq_skeleton]
  iapply (part4 I c)
  isplitl [Hi]; · iexact Hi
  iintro Hi
  dsimp only
  rw [wp_bind, k0_part5_eq_skeleton]
  iapply (part5 I c)
  isplitl [Hi]; · iexact Hi
  iintro Hi
  dsimp only
  rw [wp_bind, k0_part6_eq_skeleton]
  iapply (part6 I c)
  isplitl [Hi]; · iexact Hi
  iintro Hi
  dsimp only
  rw [wp_bind, k0_part7_eq_skeleton]
  iapply (part7 I K c (f := fs) (hw := pay17_eq (I c) c))
  isplitr; · iexact Hctx
  isplitl [Hi]; · iexact Hi
  isplitl [Hb0]; · iexact Hb0
  isplitl [HO]; · iexact HO
  isplitl [Hcr]; · iexact Hcr
  isplitl [Hat]; · iexact Hat
  iintro %v222 ⟨Hi, Hc00, Hc01, Hc02, HO, Hz, Hall⟩
  ihave Hr := (all_ready c) $$ [Hst Hall]
  · isplitl [Hst] <;> iassumption
  ihave Hr' := (Entails.of_eq (copies_list fun n => Ready c n)) $$ Hr
  icases Hr' with ⟨Hn000, Hn001, Hn002, Hn100, Hn101, Hn102, Hn010, Hn011, Hn012, Hn110, Hn111, Hn112, Hn020, Hn021, Hn022, Hn120, Hn121, Hn122⟩
  rw [wp_bind, k0_part8_eq_skeleton]
  iapply (part8 I K c)
  isplitr; · iexact Hctx
  isplitl [HO]; · iexact HO
  isplitl [Hn000]; · iexact Hn000
  isplitl [Hc00]; · iexact Hc00
  isplitl [Hn001]; · iexact Hn001
  isplitl [Hc01]; · iexact Hc01
  iintro %v236 %v250 ⟨HO, Hn000, Hn001⟩
  dsimp only
  rw [wp_bind, k0_part9_eq_skeleton]
  iapply (part9 I K c)
  isplitr; · iexact Hctx
  isplitl [HO]; · iexact HO
  isplitl [Hn002]; · iexact Hn002
  isplitl [Hc02]; · iexact Hc02
  isplitl [Hi]; · iexact Hi
  iintro ⟨HO, Hn002, Hi⟩
  dsimp only
  rw [wp_bind, k0_part10_eq_skeleton]
  iapply (part10 I c)
  isplitl [Hi]; · iexact Hi
  iintro Hi
  dsimp only
  rw [wp_bind, k0_part11_eq_skeleton]
  iapply (part11 I c)
  isplitl [Hi]; · iexact Hi
  iintro Hi
  dsimp only
  rw [wp_bind, k0_part12_eq_skeleton]
  iapply (part12 I c)
  isplitl [Hi]; · iexact Hi
  iintro Hi
  dsimp only
  rw [wp_bind, k0_part13_eq_skeleton]
  iapply (part13 I c)
  isplitl [Hi]; · iexact Hi
  iintro Hi
  dsimp only
  rw [wp_bind, k0_part14_eq_skeleton]
  iapply (part14 I K c (f := fs) (hw := pay32_eq (I c) c))
  isplitr; · iexact Hctx
  isplitl [Hi]; · iexact Hi
  isplitl [Hb1]; · iexact Hb1
  isplitl [HO]; · iexact HO
  isplitl [Hn100]; · iexact Hn100
  iintro %v440 ⟨Hi, Hc11, Hc12, HO, Hn100⟩
  rw [wp_bind, k0_part15_eq_skeleton]
  iapply (part15 I K c)
  isplitr; · iexact Hctx
  isplitl [HO]; · iexact HO
  isplitl [Hn101]; · iexact Hn101
  isplitl [Hc11]; · iexact Hc11
  iintro %v454 %v468 ⟨HO, Hn101⟩
  dsimp only
  rw [wp_bind, k0_part16_eq_skeleton]
  iapply (part16 I K c)
  isplitr; · iexact Hctx
  isplitl [HO]; · iexact HO
  isplitl [Hn102]; · iexact Hn102
  isplitl [Hc12]; · iexact Hc12
  isplitl [Hn000]; · iexact Hn000
  iintro ⟨HO, Hn102, Hn000, Hc00, Hs000⟩
  rw [wp_bind, k0_part17_eq_skeleton]
  iapply (part17 I K c)
  isplitr; · iexact Hctx
  isplitl [HO]; · iexact HO
  isplitl [Hn001]; · iexact Hn001
  iintro ⟨HO, Hn001, Hc01, Hs001⟩
  rw [wp_bind, k0_part18_eq_skeleton]
  iapply (part18 I K c)
  isplitr; · iexact Hctx
  isplitl [HO]; · iexact HO
  isplitl [Hn002]; · iexact Hn002
  isplitl [Hc00]; · iexact Hc00
  isplitl [Hs000]; · iexact Hs000
  isplitl [Hc01]; · iexact Hc01
  isplitl [Hs001]; · iexact Hs001
  iintro ⟨HO, Hn002, Hc02, Hs002, Hc00, Hs000, Hc01, Hs001⟩
  dsimp only
  rw [wp_bind, k0_part19_eq_skeleton]
  iapply (part19 I c)
  isplitl [Hc01]; · iexact Hc01
  isplitl [Hc02]; · iexact Hc02
  isplitl [Hs002]; · iexact Hs002
  iintro %v548 ⟨Hc01, Hc02, Hs002⟩
  rw [wp_bind, k0_part20_eq_skeleton]
  iapply (part20 I K c)
  isplitr; · iexact Hctx
  isplitl [HO]; · iexact HO
  isplitl [Hn010]; · iexact Hn010
  isplitl [Hc00]; · iexact Hc00
  isplitl [Hn011]; · iexact Hn011
  isplitl [Hc01]; · iexact Hc01
  iintro %v562 %v576 ⟨HO, Hn010, Hn011⟩
  dsimp only
  rw [wp_bind, k0_part21_eq_skeleton]
  iapply (part21 I K c)
  isplitr; · iexact Hctx
  isplitl [HO]; · iexact HO
  isplitl [Hn012]; · iexact Hn012
  isplitl [Hc02]; · iexact Hc02
  isplitl [Hn100]; · iexact Hn100
  iintro ⟨HO, Hn012, Hn100, Hc10, Hs100⟩
  rw [wp_bind, k0_part22_eq_skeleton]
  iapply (part22 I K c)
  isplitr; · iexact Hctx
  isplitl [HO]; · iexact HO
  isplitl [Hn101]; · iexact Hn101
  iintro ⟨HO, Hn101, Hc11, Hs101⟩
  rw [wp_bind, k0_part23_eq_skeleton]
  iapply (part23 I K c)
  isplitr; · iexact Hctx
  isplitl [HO]; · iexact HO
  isplitl [Hn102]; · iexact Hn102
  isplitl [Hc10]; · iexact Hc10
  isplitl [Hs100]; · iexact Hs100
  isplitl [Hc11]; · iexact Hc11
  iintro ⟨HO, Hn102, Hc12, Hs102, Hc10, Hs100, Hc11⟩
  rw [wp_bind, k0_part24_eq_skeleton]
  iapply (part24 I c)
  isplitl [Hs101]; · iexact Hs101
  isplitl [Hc11]; · iexact Hc11
  isplitl [Hc12]; · iexact Hc12
  isplitl [Hs102]; · iexact Hs102
  iintro %v656 ⟨Hs101, Hc11, Hc12, Hs102⟩
  rw [wp_bind, k0_part25_eq_skeleton]
  iapply (part25 I K c)
  isplitr; · iexact Hctx
  isplitl [HO]; · iexact HO
  isplitl [Hn110]; · iexact Hn110
  isplitl [Hc10]; · iexact Hc10
  isplitl [Hn111]; · iexact Hn111
  isplitl [Hc11]; · iexact Hc11
  iintro %v670 %v684 %v685 ⟨HO, Hn110, Hn111⟩
  dsimp only
  rw [wp_bind, k0_part26_eq_skeleton]
  iapply (part26 I K c)
  isplitr; · iexact Hctx
  isplitl [HO]; · iexact HO
  isplitl [Hn112]; · iexact Hn112
  isplitl [Hc12]; · iexact Hc12
  isplitl [Hn010]; · iexact Hn010
  iintro ⟨HO, Hn112, Hn010, Hc00⟩
  rw [wp_bind, k0_part27_eq_skeleton]
  iapply (part27 I K c)
  isplitr; · iexact Hctx
  isplitl [HO]; · iexact HO
  isplitl [Hn010]; · iexact Hn010
  isplitl [Hn011]; · iexact Hn011
  iintro ⟨HO, Hn010, Hs010, Hn011, Hc01, Hs011⟩
  rw [wp_bind, k0_part28_eq_skeleton]
  iapply (part28 I K c)
  isplitr; · iexact Hctx
  isplitl [HO]; · iexact HO
  isplitl [Hn012]; · iexact Hn012
  isplitl [Hc00]; · iexact Hc00
  isplitl [Hs010]; · iexact Hs010
  isplitl [Hc01]; · iexact Hc01
  iintro ⟨HO, Hn012, Hc02, Hs012, Hc00, Hs010, Hc01⟩
  rw [wp_bind, k0_part29_eq_skeleton]
  iapply (part29 I c)
  isplitl [Hs011]; · iexact Hs011
  isplitl [Hc01]; · iexact Hc01
  isplitl [Hc02]; · iexact Hc02
  isplitl [Hs012]; · iexact Hs012
  iintro %v764 ⟨Hs011, Hc01, Hc02, Hs012⟩
  rw [wp_bind, k0_part30_eq_skeleton]
  iapply (part30 I K c)
  isplitr; · iexact Hctx
  isplitl [HO]; · iexact HO
  isplitl [Hn020]; · iexact Hn020
  isplitl [Hc00]; · iexact Hc00
  isplitl [Hn021]; · iexact Hn021
  isplitl [Hc01]; · iexact Hc01
  iintro %v778 %v792 ⟨HO, Hn020, Hn021⟩
  dsimp only
  rw [wp_bind, k0_part31_eq_skeleton]
  iapply (part31 I K c)
  isplitr; · iexact Hctx
  isplitl [HO]; · iexact HO
  isplitl [Hn022]; · iexact Hn022
  isplitl [Hc02]; · iexact Hc02
  isplitl [Hn110]; · iexact Hn110
  iintro ⟨HO, Hn022, Hn110, Hc10⟩
  rw [wp_bind, k0_part32_eq_skeleton]
  iapply (part32 I K c)
  isplitr; · iexact Hctx
  isplitl [HO]; · iexact HO
  isplitl [Hn110]; · iexact Hn110
  isplitl [Hn111]; · iexact Hn111
  iintro ⟨HO, Hn110, Hs110, Hn111, Hc11, Hs111⟩
  rw [wp_bind, k0_part33_eq_skeleton]
  iapply (part33 I K c)
  isplitr; · iexact Hctx
  isplitl [HO]; · iexact HO
  isplitl [Hn112]; · iexact Hn112
  isplitl [Hc10]; · iexact Hc10
  isplitl [Hs110]; · iexact Hs110
  iintro ⟨HO, Hn112, Hc12, Hs112, Hc10, Hs110⟩
  rw [wp_bind, k0_part34_eq_skeleton]
  iapply (part34 I c)
  isplitl [Hc11]; · iexact Hc11
  isplitl [Hs111]; · iexact Hs111
  isplitl [Hc12]; · iexact Hc12
  isplitl [Hs112]; · iexact Hs112
  iintro %v872 ⟨Hc11, Hs111, Hc12, Hs112⟩
  rw [wp_bind, k0_part35_eq_skeleton]
  iapply (part35 I K c)
  isplitr; · iexact Hctx
  isplitl [HO]; · iexact HO
  isplitl [Hn120]; · iexact Hn120
  isplitl [Hc10]; · iexact Hc10
  isplitl [Hn121]; · iexact Hn121
  isplitl [Hc11]; · iexact Hc11
  iintro %v886 %v900 ⟨HO, Hn120, Hn121⟩
  dsimp only
  rw [wp_bind, k0_part36_eq_skeleton]
  iapply (part36 I K c)
  isplitr; · iexact Hctx
  isplitl [HO]; · iexact HO
  isplitl [Hn122]; · iexact Hn122
  isplitl [Hc12]; · iexact Hc12
  isplitl [Hn020]; · iexact Hn020
  iintro ⟨HO, Hn122, Hn020, Hc00⟩
  rw [wp_bind, k0_part37_eq_skeleton]
  iapply (part37 I K c)
  isplitr; · iexact Hctx
  isplitl [HO]; · iexact HO
  isplitl [Hn020]; · iexact Hn020
  isplitl [Hn021]; · iexact Hn021
  iintro ⟨HO, Hn020, Hs020, Hn021, Hc01, Hs021⟩
  rw [wp_bind, k0_part38_eq_skeleton]
  iapply (part38 I K c)
  isplitr; · iexact Hctx
  isplitl [HO]; · iexact HO
  isplitl [Hn022]; · iexact Hn022
  isplitl [Hc00]; · iexact Hc00
  isplitl [Hs020]; · iexact Hs020
  iintro ⟨HO, Hn022, Hc02, Hs022, Hc00, Hs020⟩
  rw [wp_bind, k0_part39_eq_skeleton]
  iapply (part39 I c (f := fo))
  isplitl [Hc00]; · iexact Hc00
  isplitl [Hc01]; · iexact Hc01
  isplitl [Hs021]; · iexact Hs021
  isplitl [Hc02]; · iexact Hc02
  isplitl [Hs022]; · iexact Hs022
  isplitl [Ho]; · iexact Ho
  iintro ⟨Hs021, Hs022, Hb0, Ho⟩
  rw [wp_bind, k0_part40_eq_skeleton]
  iapply (part40 I K c)
  isplitr; · iexact Hctx
  isplitl [HO]; · iexact HO
  isplitl [Hn120]; · iexact Hn120
  iintro ⟨HO, Hn120, Hc10, Hs120⟩
  rw [wp_bind, k0_part41_eq_skeleton]
  iapply (part41 I K c)
  isplitr; · iexact Hctx
  isplitl [HO]; · iexact HO
  isplitl [Hn121]; · iexact Hn121
  isplitl [Hn122]; · iexact Hn122
  iintro ⟨HO, Hn121, Hc11, Hs121, Hn122, Hc12⟩
  rw [wp_bind, k0_part42_eq_skeleton]
  iapply (part42 I K c)
  isplitr; · iexact Hctx
  isplitl [HO]; · iexact HO
  isplitl [Hn122]; · iexact Hn122
  isplitl [Hc10]; · iexact Hc10
  isplitl [Hs120]; · iexact Hs120
  isplitl [Hc11]; · iexact Hc11
  isplitl [Hs121]; · iexact Hs121
  isplitl [Hc12]; · iexact Hc12
  iintro ⟨HO, Hn122, Hs122, Hc10, Hs120, Hc11, Hs121, Hc12⟩
  simp only [Prog.lift, Prog.bind_op, Prog.bind_ret, Prog.pure_eq_ret]
  iapply (step_slot c (1, 2, 2) (Rbuf I c)) $$ Hs122
  iintro Hs122
  iapply (step_chunk c 1 2 (Sbuf I 2 c)) $$ Hc12
  iintro Hc12
  iapply (step_update I c (1, 2, 2) 2 rfl rfl) $$ Hc12
  iintro Hc12
  rw [wp_ret]
  imodintro
  ihave Hb1 := (Entails.of_eq (slab_eq_chunks c 1 (Sbuf I 3 c)).symm) $$ [Hc10 Hc11 Hc12]
  · unfold chunks
    isplitl [Hc10]; · iexact Hc10
    isplitl [Hc11] <;> iassumption
  iapply (step_slab c 1 (Sbuf I 3 c)) $$ Hb1
  iintro Hb1
  iapply (step_out_load c 1) $$ Ho
  iintro Ho %w
  iapply (step_out_store I c 1 _ rfl) $$ Ho
  iintro Ho
  rw [out_whole, wp_ret]
  imodintro
  iapply Hend
  unfold bodyEnd
  isplitl [HO]; · iexact HO
  isplitl [Hi]; · iexact Hi
  isplitl [Ho]; · iexact Ho
  isplitl [Hb0 Hb1]; · iapply (Entails.of_eq (scratch_eq_slabs c (Sbuf I 3 c)).symm); isplitl [Hb0] <;> iassumption
  isplitl [Hn000 Hn001 Hn002 Hn100 Hn101 Hn102 Hn010 Hn011 Hn012 Hn110 Hn111 Hn112 Hn020 Hn021 Hn022 Hn120 Hn121 Hn122]
  · iapply (Entails.of_eq (copies_list fun n => Done c n).symm)
    isplitl [Hn000]; · iexact Hn000
    isplitl [Hn001]; · iexact Hn001
    isplitl [Hn002]; · iexact Hn002
    isplitl [Hn100]; · iexact Hn100
    isplitl [Hn101]; · iexact Hn101
    isplitl [Hn102]; · iexact Hn102
    isplitl [Hn010]; · iexact Hn010
    isplitl [Hn011]; · iexact Hn011
    isplitl [Hn012]; · iexact Hn012
    isplitl [Hn110]; · iexact Hn110
    isplitl [Hn111]; · iexact Hn111
    isplitl [Hn112]; · iexact Hn112
    isplitl [Hn020]; · iexact Hn020
    isplitl [Hn021]; · iexact Hn021
    isplitl [Hn022]; · iexact Hn022
    isplitl [Hn120]; · iexact Hn120
    isplitl [Hn121]; · iexact Hn121
    iexact Hn122
  isplitl [Hs000 Hs001 Hs002 Hs100 Hs101 Hs102 Hs010 Hs011 Hs012 Hs110 Hs111 Hs112 Hs020 Hs021 Hs022 Hs120 Hs121 Hs122]
  · iapply (Entails.of_eq (copies_list fun n => (slotPts n c (Rbuf I c) : sProp 𝕄)).symm)
    isplitl [Hs000]; · iexact Hs000
    isplitl [Hs001]; · iexact Hs001
    isplitl [Hs002]; · iexact Hs002
    isplitl [Hs100]; · iexact Hs100
    isplitl [Hs101]; · iexact Hs101
    isplitl [Hs102]; · iexact Hs102
    isplitl [Hs010]; · iexact Hs010
    isplitl [Hs011]; · iexact Hs011
    isplitl [Hs012]; · iexact Hs012
    isplitl [Hs110]; · iexact Hs110
    isplitl [Hs111]; · iexact Hs111
    isplitl [Hs112]; · iexact Hs112
    isplitl [Hs020]; · iexact Hs020
    isplitl [Hs021]; · iexact Hs021
    isplitl [Hs022]; · iexact Hs022
    isplitl [Hs120]; · iexact Hs120
    isplitl [Hs121]; · iexact Hs121
    iexact Hs122
  iexact Hz

end Cert.RingKernelIdeal

end
-- ==== Proof.RingKernelIdeal.Data.lean ====
/-
# The body in the pipeline

What the pipeline is told: each argument is staged whole and left as it was, and the result buffer holds the sums after
the last round. Between its two ends the body is the exchange of `Body`.
-/
module

public import proofs.«01_k».proof.Proof.RingKernelIdeal.Body
public import proofs.«01_k».proof.Proof.Gen.KernelIdeal.Launch
public import proofs.«01_k».proof.Proof.Gen.KernelIdeal.Points
public import Idealize.ShloMosaic.Lib.Pipeline.ValueKit

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, every semaphore at zero, any generator registers. -/
def s₀ : MemSt nD τ sig (Elt F) := ⟨m, fun _ => 0, ρ⟩

/-- The five arguments on device `c`. -/
def args (c : Dev nD) : Ins F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

/-- The invariants and the marks of `ctx`, without the levels. -/
def records (I : Dev nD → Ins F) (K : Dev nD × Cell → ℕ) : sProp 𝕄 :=
  iprop((bigSep Finset.univ fun ck : Dev nD × Cell => cellInv ER (Rd I) (K ck) (kcell ck))
    ∗ bigSep Finset.univ fun ck : Dev nD × Cell => reached ER (kcell ck) 0)

instance records_persistent (I : Dev nD → Ins F) (K : Dev nD × Cell → ℕ) : BI.Persistent (records I K) := by unfold records; infer_instance

/-- The tokens device `c` pays with: one at each neighbour's barrier, and two for each copy it makes. -/
def payToks (c : Dev nD) : sProp 𝕄 :=
  iprop((bigSep Finset.univ fun a : Fin 3 => dutyTok ER (barCell (peer a c)) 0 a)
    ∗ (bigSep Finset.univ fun n : Copy => dutyTok ER (sendCell n c) 0 0)
    ∗ bigSep Finset.univ fun n : Copy => dutyTok ER (recvCell n (partner n c)) 0 0)

/-- Device `c`'s positions at its own cells, and the tokens it pays with. -/
def hand (c : Dev nD) : sProp 𝕄 :=
  iprop((bigSep Finset.univ fun k : Cell => atPos ER (kcell (c, k)) 0 ∅ 0) ∗ payToks c)

/-- The credits of device `c`'s own waits. -/
def credits (c : Dev nD) : sProp 𝕄 :=
  iprop(cred (tallyAt (barCell c) () 3) ∗ bigSep Finset.univ fun n : Copy => cred (tallyAt (recvCell n c) () N))

/-- What device `c` has before its scratch buffers and staging buffers. -/
def start (c : Dev nD) : sProp 𝕄 :=
  iprop((∃ K, records (args m) K ∗ hand c) ∗ credits c ∗ levAts L lv)

/-- Device `c`'s scratch: the partial sums and the landing buffer, whole. -/
def Φ₀ (c : Dev nD) : sProp 𝕄 :=
  iprop(start m c ∗ (∃ f, sM.view.loc (c : Thread nD τ) ↦{fullShare} f) ∗ ∃ f, rM.view.loc (c : Thread nD τ) ↦{fullShare} f)
/-- The same after the body, and every cell of device `c` at zero. -/
def Φ₁ (c : Dev nD) : sProp 𝕄 :=
  iprop((∃ f, sM.view.loc (c : Thread nD τ) ↦{fullShare} f) ∗ (∃ f, rM.view.loc (c : Thread nD τ) ↦{fullShare} f)
    ∗ (bigSep Finset.univ fun k : Copy ⊕ Copy => semVal (kcell (c, .inr k)) 0) ∗ semVal (barCell c) 0)

/-- What the pipeline is told of the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m c).x
    | ⟨1, _⟩ => (args m c).wq
    | ⟨2, _⟩ => (args m c).k
    | ⟨3, _⟩ => (args m c).v
    | ⟨4, _⟩ => (args m c).wo
    | ⟨5, _⟩ => outVal (args m) c
  Φ t := match t with
    | ⟨0, _⟩ => Φ₀ m c
    | ⟨_ + 1, _⟩ => Φ₁ c
  q _ := fullShare
  owed t := match t with
    | ⟨0, _⟩ => O₀ c
    | ⟨_ + 1, _⟩ => D c 0

/-- A staging buffer holding the given contents. -/
abbrev holds (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

omit [FloatOps F] in
theorem owns_staging (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

section Fetched
variable (c : Dev nD)

omit [FloatOps F] in
/-- A whole array is staged from its first element on. -/
theorem origin (k i : ℕ) : 0 * k + i = i := by rw [Nat.zero_mul, Nat.zero_add]

theorem before_x (d) : (dats m ρ 0 c).before (0 : Fin 6) t0_0 d = (args m c).x := by
  unfold Dat.before; rw [if_pos (fetch0_0 t0_0)]; funext i
  show (win0_0.blk t0_0).view.read (Elt F) (args m c).x i = _
  blk_simp
  refine congrArg _ (funext fun a => Fin.ext ?_)
  fin_cases a <;> (blk_simp; exact origin _ _)
theorem before_wq (d) : (dats m ρ 0 c).before (1 : Fin 6) t0_0 d = (args m c).wq := by
  unfold Dat.before; rw [if_pos (fetch0_1 t0_0)]; funext i
  show (win0_1.blk t0_0).view.read (Elt F) (args m c).wq i = _
  blk_simp
  refine congrArg _ (funext fun a => Fin.ext ?_)
  fin_cases a <;> (blk_simp; exact origin _ _)
theorem before_k (d) : (dats m ρ 0 c).before (2 : Fin 6) t0_0 d = (args m c).k := by
  unfold Dat.before; rw [if_pos (fetch0_2 t0_0)]; funext i
  show (win0_2.blk t0_0).view.read (Elt F) (args m c).k i = _
  blk_simp
  refine congrArg _ (funext fun a => Fin.ext ?_)
  fin_cases a <;> (blk_simp; exact origin _ _)
theorem before_v (d) : (dats m ρ 0 c).before (3 : Fin 6) t0_0 d = (args m c).v := by
  unfold Dat.before; rw [if_pos (fetch0_3 t0_0)]; funext i
  show (win0_3.blk t0_0).view.read (Elt F) (args m c).v i = _
  blk_simp
  refine congrArg _ (funext fun a => Fin.ext ?_)
  fin_cases a <;> (blk_simp; exact origin _ _)
theorem before_wo (d) : (dats m ρ 0 c).before (4 : Fin 6) t0_0 d = (args m c).wo := by
  unfold Dat.before; rw [if_pos (fetch0_4 t0_0)]; funext i
  show (win0_4.blk t0_0).view.read (Elt F) (args m c).wo i = _
  blk_simp
  refine congrArg _ (funext fun a => Fin.ext ?_)
  fin_cases a <;> (blk_simp; exact origin _ _)

end Fetched

section Slots

omit [FloatOps F] in
/-- The landing buffer is its eighteen slots. -/
theorem landing_slots (c : Dev nD) (f : FVec F S2x3x3x512x256 .bf16) :
    (rM.view.loc (c : Thread nD τ) ↦{fullShare} f : sProp 𝕄) = bigSep Finset.univ fun n : Copy => slotPts n c f := by
  have h := pointsTo_biUnion (Val := Elt F) (Ix := Unit) (Name := ℕ) (U := UU) (Lvl := ℕ) (ℓ := rM.view.loc (c : Thread nD τ)) (q := fullShare) (f := f)
    (Finset.univ : Finset Copy) (fun n => (slotRect n.1 n.2.1 n.2.2).set) (fun n _ n' _ hne => slot_disjoint hne)
  refine ((congrArg (fun S => (rM.view.loc (c : Thread nD τ) ↦[S]{fullShare} f : sProp 𝕄)) univ_slots).trans h).trans ?_
  refine bigSep_congr fun n _ => ?_
  unfold slotPts
  rw [slot_set]

omit [FloatOps F] in
/-- The landing buffer, lent axis by axis. -/
theorem landing_lent (c : Dev nD) (f : FVec F S2x3x3x512x256 .bf16) :
    (rM.view.loc (c : Thread nD τ) ↦{fullShare} f : sProp 𝕄) ⊢ bigSep Finset.univ fun a : Fin 3 => lent a c := by
  rw [landing_slots, lent_own]
  exact bigSep_mono fun n _ => show (slotPts n c f : sProp 𝕄) ⊢ iprop(∃ f, slotPts n c f) from by
    iintro H; iexists f; iexact H

end Slots

variable (K : Dev nD × Cell → ℕ) (c : Dev nD)

omit [FloatOps F] in
/-- The cells of the copies, out and in. -/
theorem copies_cells (Φ : Copy ⊕ Copy → sProp 𝕄) :
    bigSep Finset.univ Φ = iprop((bigSep Finset.univ fun n : Copy => Φ (.inl n)) ∗ bigSep Finset.univ fun n : Copy => Φ (.inr n)) := bigSep_univ_sum Φ
omit [FloatOps F] in
/-- A device's cells: the barrier, and those of the copies. -/
theorem all_cells (Φ : Cell → sProp 𝕄) :
    bigSep Finset.univ Φ = iprop(Φ bar ∗ (bigSep Finset.univ fun n : Copy => Φ (snd n)) ∗ bigSep Finset.univ fun n : Copy => Φ (rcv n)) := by
  rw [show bigSep Finset.univ Φ = iprop((bigSep Finset.univ fun u : Unit => Φ (.inl u)) ∗ bigSep Finset.univ fun k : Copy ⊕ Copy => Φ (.inr k)) from bigSep_univ_sum Φ,
    copies_cells]
  congr 1
  exact bigSep_univ_of_subsingleton ()

/-- What the pipeline hands the body and what it wants back. -/
def bodyPre : sProp 𝕄 :=
  iprop(Φ₀ m c ∗ (dats m ρ 0 c).owesAt () t0_0.castSucc
    ∗ (∃ d, holds c cc0_stg0_0 ((dats m ρ 0 c).before (0 : Fin 6) t0_0 d))
    ∗ (∃ d, holds c cc0_stg1_0 ((dats m ρ 0 c).before (1 : Fin 6) t0_0 d))
    ∗ (∃ d, holds c cc0_stg2_0 ((dats m ρ 0 c).before (2 : Fin 6) t0_0 d))
    ∗ (∃ d, holds c cc0_stg3_0 ((dats m ρ 0 c).before (3 : Fin 6) t0_0 d))
    ∗ (∃ d, holds c cc0_stg4_0 ((dats m ρ 0 c).before (4 : Fin 6) t0_0 d))
    ∗ (∃ d, holds c cc0_stg5_0 ((dats m ρ 0 c).before (5 : Fin 6) t0_0 d)))
@[inherit_doc bodyPre]
def bodyPost : sProp 𝕄 :=
  iprop(Φ₁ c ∗ (dats m ρ 0 c).owesAt () t0_0.succ ∗ holds c cc0_stg0_0 (args m c).x ∗ holds c cc0_stg1_0 (args m c).wq
    ∗ holds c cc0_stg2_0 (args m c).k ∗ holds c cc0_stg3_0 (args m c).v ∗ holds c cc0_stg4_0 (args m c).wo
    ∗ holds c cc0_stg5_0 (outVal (args m) c))

/-- From the launch's hand to the exchange's starting point: the tokens, positions and credits sorted by copy. -/
theorem sorted : iprop(hand c ∗ credits c)
    ⊢ (iprop((bigSep Finset.univ fun a : Fin 3 => dutyTok ER (barCell (peer a c)) 0 a) ∗ cred (tallyAt (barCell c) () 3)
      ∗ atPos ER (barCell c) 0 ∅ 0 ∗ bigSep Finset.univ fun n => Start c n) : sProp 𝕄) := by
  unfold hand credits payToks Start
  rw [all_cells, bigSep_sep', bigSep_sep', bigSep_sep', bigSep_sep']
  iintro ⟨⟨⟨Hb, Hs, Hr⟩, Ht, Hts, Htr⟩, Hc, Hcr⟩
  isplitl [Ht]; · iexact Ht
  isplitl [Hc]; · iexact Hc
  isplitl [Hb]; · iexact Hb
  isplitl [Hts]; · iexact Hts
  isplitl [Htr]; · iexact Htr
  isplitl [Hs]; · iexact Hs
  isplitl [Hr]; · iexact Hr
  iexact Hcr

set_option maxRecDepth 20000 in
/-- The pipeline's call of the body does what `dats` says. -/
theorem body_obligation : BodyObligation (dats (F := F) m ρ 0 c) (defs₀ (F := F)) 𝒱₀ () Set.univ := fun t => by
  rw [fin_N0 t]
  rw [bigSep_W0, bigSep_W0]
  simp only [owns_staging]
  show bodyPre m ρ c ⊢ wp frame (wpE (defs₀ (F := F)) 𝒱₀ (c : Thread nD τ) none) Set.univ
    (cc0_body xM (Memref.isWhole_whole _) wqM (Memref.isWhole_whole _) kM (Memref.isWhole_whole _) vM (Memref.isWhole_whole _)
      woM (Memref.isWhole_whole _) oM (Memref.isWhole_whole _) sM (Memref.isWhole_whole _) rM (Memref.isWhole_whole _) cc0_scratch2 cc0_scratch3)
    (fun _ => bodyPost m ρ c)
  unfold bodyPre Φ₀ start
  simp only [before_x, before_wq, before_k, before_v, before_wo]
  iintro ⟨⟨⟨⟨%K, #HR, Hh⟩, Hcr, #Hlev⟩, Hs, ⟨%fr, Hr⟩⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  subst e0 e1 e2 e3 e4
  unfold Dat.owesAt Pipeline.owesWithin
  icases Ho with ⟨%W, %hW, HO⟩
  ihave Hsort := (sorted (F := F) c) $$ [Hh Hcr]
  · isplitl [Hh] <;> iassumption
  icases Hsort with ⟨Ht, Hc, Hb, Hst⟩
  ihave Hl := (landing_lent (F := F) c fr) $$ Hr
  iapply (sound_body (args m) K c fun _ => bodyPost m ρ c)
  unfold bodyStart ctx records ins oPts OW
  isplitr
  · icases HR with ⟨H1, H2⟩
    isplitr; · iexact H1
    isplitr; · iexact H2
    iexact Hlev
  isplitr []
  · isplitl [HO]; · iexists W; iexact HO
    isplitl [H0 H1 H2 H3 H4]
    · isplitl [H0]; · iexact H0
      isplitl [H1]; · iexact H1
      isplitl [H2]; · iexact H2
      isplitl [H3]; · iexact H3
      iexact H4
    isplitl [H5]; · iexists f5; iexact H5
    isplitl [Hs]; · iexact Hs
    isplitl [Ht Hl]
    · rw [bigSep_sep']
      isplitl [Ht]; · iexact Ht
      iexact Hl
    isplitl [Hc]; · iexact Hc
    isplitl [Hb]; · iexact Hb
    iexact Hst
  unfold bodyEnd bodyPost Φ₁ ins oPts OW Done
  rw [bigSep_sep', ← landing_slots, copies_cells]
  iintro ⟨⟨%W', HO⟩, ⟨H0, H1, H2, H3, H4⟩, H5, Hs, ⟨Hzs, Hzr⟩, Hr, Hzb⟩
  isplitl [Hs Hr Hzs Hzr Hzb]
  · isplitl [Hs]; · iexists _; iexact Hs
    isplitl [Hr]; · iexists _; iexact Hr
    isplitl [Hzs Hzr]
    · isplitl [Hzs]; · iexact Hzs
      iexact Hzr
    iexact Hzb
  isplitl [HO]
  · unfold Dat.owesAt Pipeline.owesWithin
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

end Cert.RingKernelIdeal

end
-- ==== Proof.RingKernelIdeal.Launch.lean ====
/-
# The launch

All eight devices start at once. The launch gives every cell its invariant, deals the tokens to those who pay with
them, and hands each device the credit its waits need. From the run of the pipeline follow the result on every
device, the arguments as they were, and all counters at zero.
-/
module

public import proofs.«01_k».proof.Proof.RingKernelIdeal.Data
public import Idealize.ShloMosaic.Lib.Pipeline.CollectiveSegs

@[expose] public section

noncomputable section

namespace Cert.RingKernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The semaphores that only the kernel uses: those that count the copies. -/
def osem (k : Copy ⊕ Copy) : SemLoc sig := csem (.inr k)

theorem osem_inj : Function.Injective osem := fun k k' h => Sum.inr.inj (csem_injective h)

theorem ownSemFacts : Pipeline.OwnSemFacts cfg0.spec osem where
  isScoped := by decide
  inj := osem_inj
  disj := by decide

theorem share_eq (c : Dev nD) (w : Fin cfg0.W) : (dats m ρ 0 c).share w = fullShare := by unfold Dat.share; split <;> rfl

theorem kcell_injective : Function.Injective (kcell : Dev nD × Cell → GSem nD τ sig) := by
  rintro ⟨c, k⟩ ⟨c', k'⟩ h
  have hc : c = c' := congrArg (fun g : GSem nD τ sig => g.1.1) h
  have hk : k = k' := csem_injective (congrArg Prod.snd h)
  rw [hc, hk]

/-- Every cell of every device. -/
def cells : Finset (GSem nD τ sig) := Finset.univ.map ⟨kcell, kcell_injective⟩

/-- A token for each cell and each of the three duty names; a cell may have fewer duties than that. -/
def tokOf (x : Dev nD × Cell × Fin 3) : GSem nD τ sig × ℕ × Fin 3 := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun y : GSem nD τ sig × ℕ × Fin 3 => y.2.2) h
  exact Prod.ext (Prod.ext_iff.mp h1).1 (Prod.ext (Prod.ext_iff.mp h1).2 h2)
def tokens : Finset (GSem nD τ sig × ℕ × Fin 3) := Finset.univ.map ⟨tokOf, tokOf_injective⟩

/-- The ghost state at launch: the pipeline's, and the exchange's. -/
def u₀ : UU := (initOf (Pipeline.cells cfgs cellOf_inj) (Pipeline.launchToks cfgs cellOf_inj), initOf cells tokens)

/-- The tokens of device `c`'s own cells. -/
def toks (c : Dev nD) : sProp 𝕄 := bigSep Finset.univ fun k : Cell => bigSep Finset.univ fun d : Fin 3 => dutyTok ER (kcell (c, k)) 0 d

/-- Device `c`'s share of the ghost state at launch. -/
def dealt (c : Dev nD) : sProp 𝕄 :=
  iprop((bigSep Finset.univ fun k : Cell => roundState ER (Rd (args m)) (kcell (c, k)) 0)
    ∗ (bigSep Finset.univ fun k : Cell => iprop(atPos ER (kcell (c, k)) 0 ∅ 0 ∗ reached ER (kcell (c, k)) 0)) ∗ toks c)

/-- What it has once the cells' invariants stand and the tokens have gone to those who pay. -/
def ready (c : Dev nD) : sProp 𝕄 := iprop(∃ K, records (args m) K ∗ hand c)

omit [FloatOps F] in
theorem over_cells (Φ : GSem nD τ sig → sProp 𝕄) :
    bigSep cells Φ = bigSep Finset.univ fun c : Dev nD => bigSep Finset.univ fun k : Cell => Φ (kcell (c, k)) := by
  unfold cells; rw [bigSep_map, bigSep_univ_prod]; rfl
omit [FloatOps F] in
theorem over_tokens : bigSep tokens (fun x => (dutyTok ER x.1 x.2.1 x.2.2 : sProp 𝕄)) = bigSep Finset.univ fun c : Dev nD => toks c := by
  unfold tokens toks; rw [bigSep_map, bigSep_univ_prod]
  exact bigSep_congr fun c _ => bigSep_univ_prod (fun y : Cell × Fin 3 => dutyTok ER (kcell (c, y.1)) 0 y.2)

theorem deal : BI.own (ER (initOf cells tokens)) ⊢ (|==> bigSep Finset.univ (dealt m) : sProp 𝕄) := by
  iintro HX
  imod (Rounds.fund ER (Rd (args m)) cells tokens) $$ HX with ⟨Hst, Hr, Hat, Htok⟩
  imodintro
  ihave Hst' := (Entails.of_eq (over_cells fun g => roundState ER (Rd (args m)) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_tokens) $$ Htok
  unfold dealt; simp only [bigSep_sep']
  isplitl [Hst']; · iexact Hst'
  isplitl [Hat' Hr']
  · isplitl [Hat'] <;> iassumption
  iexact Htok'

omit [FloatOps F] in
/-- The barrier is the launch's one semaphore outside the kernel's own. -/
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
theorem all_zero (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [unscoped_bar, all_cells]
  unfold Pipeline.ownSems0
  rw [copies_cells]
  iintro ⟨⟨HS, HV⟩, HB⟩
  isplitl [HB]; · iexact HB
  isplitl [HS]; · iexact HS
  iexact HV

/-- A device's cells get their invariants. -/
theorem found (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (Rd (args m)) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (all_zero (F := F) c) $$ [Hos Hus]
  · isplitl [Hos] <;> iassumption
  imod (show iprop((bigSep Finset.univ fun k : Cell => semVal (kcell (c, k)) 0) ∗ bigSep Finset.univ fun k : Cell => roundState ER (Rd (args m)) (kcell (c, k)) 0)
      ⊢ (|={Set.univ}=> bigSep Finset.univ fun k => iprop(∃ κ : ℕ, cellInv ER (Rd (args m)) κ (kcell (c, k))) : sProp 𝕄) from by
        rw [← bigSep_sep']
        exact (bigSep_mono fun k _ => (Rounds.body_intro ER (Rd (args m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over the devices and another index may be dealt to other devices, index by index, along involutions. -/
theorem dealt_across {ι : Type} [Fintype ι] (e : ι → Dev nD → Dev nD) (he : ∀ i c, e i (e i c) = c) (Φ : ι → Dev nD → sProp 𝕄) :
    (bigSep Finset.univ fun c : Dev nD => bigSep Finset.univ fun i : ι => Φ i c)
      = bigSep Finset.univ fun c : Dev nD => bigSep Finset.univ fun i : ι => Φ i (e i c) := by
  rw [BI.bigSep_univ_comm (fun (c : Dev nD) (i : ι) => Φ i c), BI.bigSep_univ_comm (fun (c : Dev nD) (i : ι) => Φ i (e i c))]
  exact bigSep_congr fun i _ => bigSep_univ_equiv (⟨e i, e i, he i, he i⟩ : Dev nD ≃ Dev nD) (Φ i)

omit [FloatOps F] in
/-- Of a device's own tokens, those with a duty to them. -/
theorem toks_used (c : Dev nD) : (toks c : sProp 𝕄)
    ⊢ iprop((bigSep Finset.univ fun a : Fin 3 => dutyTok ER (barCell c) 0 a)
      ∗ (bigSep Finset.univ fun n : Copy => dutyTok ER (sendCell n c) 0 0) ∗ bigSep Finset.univ fun n : Copy => dutyTok ER (recvCell n c) 0 0) := by
  unfold toks
  rw [all_cells]
  exact BI.sep_mono (BI.Entails.refl _) (BI.sep_mono (bigSep_mono fun n _ => bigSep_elim (Finset.mem_univ 0)) (bigSep_mono fun n _ => bigSep_elim (Finset.mem_univ 0)))

omit [FloatOps F] in
/-- The tokens go to those who pay with them. -/
theorem toks_moved : (bigSep Finset.univ fun c : Dev nD => (toks c : sProp 𝕄)) ⊢ bigSep Finset.univ fun c : Dev nD => payToks c := by
  refine (bigSep_mono fun c _ => toks_used c).trans ?_
  unfold payToks
  rw [bigSep_sep', bigSep_sep', bigSep_sep', bigSep_sep',
    dealt_across peer peer_peer (fun a c => (dutyTok ER (barCell c) 0 a : sProp 𝕄)),
    dealt_across partner partner_partner (fun n c => (dutyTok ER (recvCell n c) 0 0 : sProp 𝕄))]
  exact BI.Entails.refl _

theorem regroup :
    (bigSep Finset.univ fun c : Dev nD => iprop((bigSep Finset.univ fun k => iprop(∃ κ : ℕ, cellInv ER (Rd (args m)) κ (kcell (c, k))))
          ∗ (bigSep Finset.univ fun k => iprop(atPos ER (kcell (c, k)) 0 ∅ 0 ∗ reached ER (kcell (c, k)) 0)) ∗ toks c) : sProp 𝕄)
      ⊢ bigSep Finset.univ (ready m) := by
  rw [bigSep_sep', bigSep_sep', ← bigSep_univ_prod (fun ck : Dev nD × Cell => iprop(∃ κ : ℕ, cellInv ER (Rd (args m)) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd (args m)) κ (kcell ck) : sProp 𝕄))) $$ HI
  icases HK with ⟨%K, #HI⟩
  ihave Htk := (toks_moved (F := F)) $$ Htok
  iapply (BI.bigSep_with_persistent (R := records (args m) K) (Φ := hand) (Ψ := ready m) fun c _ => by
    unfold ready
    iintro ⟨H1, H2⟩
    iexists K
    isplitl [H1] <;> iassumption)
  isplitr
  · unfold records; isplitl; · iexact HI
    iexact HR
  · unfold hand
    rw [bigSep_sep']
    isplitl [Hat]; · iexact Hat
    iexact Htk

/-- The step all devices take together before the region. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => found m c).trans (bigSep_fupd _ _)).trans (BI.fupd_mono (regroup m))

/-! ## The credits -/

theorem kcell_eq_iff {c c' : Dev nD} {k k' : Cell} : Iff (kcell (c, k) = kcell (c', k')) (c = c' ∧ k = k') :=
  ⟨fun h => Prod.ext_iff.mp (kcell_injective h), fun ⟨h1, h2⟩ => by rw [h1, h2]⟩

/-- What is owed for the last `k` copies, copy by copy. -/
theorem D_sum (d : Dev nD) (g : GSem nD τ sig) : ∀ k, D d k g () = ∑ i ∈ Finset.range k, tallyAt (recvCell (copyAt (17 - i)) (partner (copyAt (17 - i)) d)) () N g ()
  | 0 => rfl
  | k + 1 => by
    unfold D
    rw [Pi.add_apply, Finsupp.add_apply, D_sum d g k, Finset.sum_range_succ]

theorem once (n : Copy) : (∑ i ∈ Finset.range 18, if n = copyAt (17 - i) then 1 else 0) = 1 := by revert n; decide

theorem owed_copies_recv (d c : Dev nD) (n : Copy) : D d 18 (recvCell n c) () = if d = partner n c then N else 0 := by
  have h : ∀ i ∈ Finset.range 18, tallyAt (recvCell (copyAt (17 - i)) (partner (copyAt (17 - i)) d)) () N (recvCell n c) ()
      = (if n = copyAt (17 - i) then 1 else 0) * (if d = partner n c then N else 0) := by
    intro i _
    rw [tallyAt_apply]
    by_cases hn : n = copyAt (17 - i)
    · rw [← hn, if_pos rfl, one_mul]
      by_cases hd : d = partner n c
      · rw [if_pos hd, if_pos ⟨by rw [hd, partner_partner], rfl⟩]
      · rw [if_neg hd, if_neg fun h => hd (by
          have hc : c = partner n d := ((kcell_eq_iff (k := rcv n) (k' := rcv n)).mp h.1).1
          rw [hc, partner_partner])]
    · rw [if_neg hn, zero_mul, if_neg fun h => hn (by
        have := (kcell_eq_iff (k := rcv n) (k' := rcv (copyAt (17 - i)))).mp h.1
        exact Sum.inr.inj (Sum.inr.inj this.2))]
  rw [D_sum, Finset.sum_congr rfl h, ← Finset.sum_mul, once, one_mul]

theorem owed_copies_bar (d c : Dev nD) : D d 18 (barCell c) () = 0 := by
  rw [D_sum]
  exact Finset.sum_eq_zero fun i _ => by
    rw [tallyAt_apply]
    exact if_neg fun h => by cases congrArg Prod.snd h.1

theorem owed_signal_recv (a : Fin 3) (d c : Dev nD) (n : Copy) : tallyAt (barCell (peer a d)) () 1 (recvCell n c) () = 0 := by
  rw [tallyAt_apply]
  exact if_neg fun h => by cases congrArg Prod.snd h.1

theorem owed_signal_bar (a : Fin 3) (d c : Dev nD) : tallyAt (barCell (peer a d)) () 1 (barCell c) () = if d = peer a c then 1 else 0 := by
  rw [tallyAt_apply]
  by_cases h : d = peer a c
  · rw [if_pos h, if_pos ⟨by rw [h, peer_peer], rfl⟩]
  · rw [if_neg h, if_neg fun h' => h (by
      have hc : c = peer a d := ((kcell_eq_iff (k := bar) (k' := bar)).mp h'.1).1
      rw [hc, peer_peer])]

theorem owed_recv (d c : Dev nD) (n : Copy) : O₀ d (recvCell n c) () = if d = partner n c then N else 0 := by
  unfold O₀ O₁ O₂
  rw [Pi.add_apply, Finsupp.add_apply, Pi.add_apply, Finsupp.add_apply, Pi.add_apply, Finsupp.add_apply, owed_copies_recv,
    owed_signal_recv, owed_signal_recv, owed_signal_recv]
  rfl

theorem owed_bar (d c : Dev nD) : O₀ d (barCell c) () = (if d = peer 2 c then 1 else 0) + (if d = peer 1 c then 1 else 0) + (if d = peer 0 c then 1 else 0) := by
  unfold O₀ O₁ O₂
  rw [Pi.add_apply, Finsupp.add_apply, Pi.add_apply, Finsupp.add_apply, Pi.add_apply, Finsupp.add_apply, owed_copies_bar,
    owed_signal_bar, owed_signal_bar, owed_signal_bar, Nat.zero_add]

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

theorem credit_recv (c : Dev nD) (n : Copy) :
    tallyOn (recvCell n c) (launchCredit (Pipeline.owing O₀) 0 (recvCell n c)) = (tallyAt (recvCell n c) () N : CellTallies nD τ sig Unit) := by
  unfold tallyAt; refine congrArg _ (Finsupp.ext fun u => ?_); cases u
  rw [Pipeline.launchCredit_owing, Finsupp.single_eq_same, Finset.sum_congr rfl fun d _ => owed_recv d c n, Finset.sum_ite_eq' Finset.univ (partner n c) fun _ => N,
    if_pos (Finset.mem_univ _)]

omit [FloatOps F] in
theorem keep_ends {A B C : sProp 𝕄} : iprop(A ∗ B ∗ C) ⊢ iprop(A ∗ C) := by
  iintro ⟨HA, -, HC⟩
  isplitl [HA] <;> iassumption

omit [FloatOps F] in
/-- A device's credit at launch is what its waits need. -/
theorem credits_intro (c : Dev nD) : (Pipeline.launchCred O₀ c : sProp 𝕄) ⊢ credits c := by
  have h1 : (Pipeline.launchCred O₀ c : sProp 𝕄)
      ⊢ bigSep Finset.univ fun k : Cell => cred (tallyOn (kcell (c, k)) (launchCredit (Pipeline.owing O₀) 0 (kcell (c, k)))) := by
    unfold Pipeline.launchCred
    refine (bigSep_subset (t := Finset.univ.map ⟨csem, csem_injective⟩) (Finset.subset_univ _)).trans ?_
    rw [bigSep_map]
    exact BI.Entails.refl _
  refine (h1.trans (Entails.of_eq (all_cells _))).trans (keep_ends.trans ?_)
  unfold credits
  exact BI.sep_mono (Entails.of_eq (congrArg cred (credit_bar c))) (Entails.of_eq (bigSep_congr fun n _ => congrArg cred (credit_recv c n)))

/-! ## The ends of the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  iintro ⟨-, Hlev, Hcr, -, HG⟩
  ihave Hc := (credits_intro (F := F) c) $$ Hcr
  imodintro
  unfold start ready
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hp, Hr⟩
  isplitl [Hs]; · iexact Hs
  isplitl [Hp]; · iexact Hp
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_bar]
  unfold Φ₁ Pipeline.ownSems0
  iintro ⟨Hp, Hr, Hz, HzB⟩
  isplitl [HzB]; · iexact HzB
  isplitl [Hz]; · iexact Hz
  isplitl [Hp]; · iexact Hp
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr ⟨0, by decide, rfl⟩)

/-! ## The run -/

/-- What a window's array holds after the run. -/
def final (c : Dev nD) (w : Fin cfg0.W) : Buf (Elt F) ((cfg0.win w).arr.view.loc (c : Thread nD τ)) := (dats m ρ 0 c).arrAt w cfg0.N

/-- Every window's array on every device holds what `final` says. -/
def Finished : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- For any float values, from any memory with zero counters, every fair execution of the eight devices ends, the
    arrays hold what `final` says, and every counter is zero again. -/
theorem run_arrays : θ_run defs (onTc (τ := τ) (main (F := F))) (s₀ m ρ) (fun r => Finished m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array holds the sums after the last round. -/
theorem final_result (c : Dev nD) : final m ρ c (5 : Fin 6) = outVal (args m) c := by
  unfold final
  refine (dats m ρ 0 c).arrAt_eq_of_after_last 5 t0_0 (by decide +kernel) _ fun j => ?_
  blk_simp
  refine congrArg (outVal (args m) c) (funext fun a => Fin.ext ?_)
  fin_cases a <;> blk_simp

/-- The whole run of one device's arrays: the result computed, the arguments as they were, the counters at zero. -/
theorem run : θ_run defs (onTc (τ := τ) (main (F := F))) ⟨m, fun _ => 0, ρ⟩ (fun r =>
    (∀ c : Dev nD, r.2.mem ((c.tc : Thread nD τ).loc main_v1) = outVal (args m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c =>
      ⟨(h.1 c (5 : Fin 6)).trans (final_result m ρ c),
        (h.1 c (0 : Fin 6)).trans ((dats m ρ 0 c).arrAt_in (0 : Fin 6) rfl _),
        (h.1 c (1 : Fin 6)).trans ((dats m ρ 0 c).arrAt_in (1 : Fin 6) rfl _),
        (h.1 c (2 : Fin 6)).trans ((dats m ρ 0 c).arrAt_in (2 : Fin 6) rfl _),
        (h.1 c (3 : Fin 6)).trans ((dats m ρ 0 c).arrAt_in (3 : Fin 6) rfl _),
        (h.1 c (4 : Fin 6)).trans ((dats m ρ 0 c).arrAt_in (4 : Fin 6) rfl _)⟩, h.2⟩) (run_arrays m ρ)

end Cert.RingKernelIdeal

end
-- ==== Proof.Value.Reals.lean ====
/-
# Attention over the extended reals

The facts about sums and exponentials that the two spellings of the layer differ by: a scale taken out of a double sum,
and a softmax normalised after the product with the values instead of before, with and without the row's maximum
subtracted. The scores are real numbers here. The values need not be.
-/
module

public import Idealize.ShloMosaic.PureOps.Ideal
public import Idealize.ShloMosaic.PureOps.Ideal.Laws

@[expose] public section

noncomputable section

namespace Cert.AttnReals

open Idealize.ShloMosaic
open scoped BigOperators

/-- A sum times a real that is not negative is the sum of the products, whatever the summands. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of reals, taken among the extended reals. -/
theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scores of real tokens, weights and keys, with the scale put on the weights, are real … -/
theorem score_scaled {m n : ℕ} (x : Fin m → ℝ) (w : Fin m → Fin n → ℝ) (k : Fin n → ℝ) (r : ℝ) :
    (∑ d, (∑ i, (x i : EReal) * ((w i d : EReal) * (r : EReal))) * (k d : EReal))
      = (((∑ d, (∑ i, x i * w i d) * k d) * r : ℝ) : EReal) := by
  rw [Finset.sum_mul, real_sum]
  refine Finset.sum_congr rfl fun d _ => ?_
  rw [show (∑ i, x i * w i d) * k d * r = (∑ i, x i * (w i d * r)) * k d by
    rw [mul_right_comm, Finset.sum_mul]
    exact congrArg (· * k d) (Finset.sum_congr rfl fun i _ => mul_assoc _ _ _)]
  rw [EReal.coe_mul, real_sum]
  simp only [EReal.coe_mul]

/-- … and so are they with the scale put on the scores: the same real. -/
theorem score_after {m n : ℕ} (x : Fin m → ℝ) (w : Fin m → Fin n → ℝ) (k : Fin n → ℝ) (r : ℝ) :
    (∑ d, (∑ i, (x i : EReal) * (w i d : EReal)) * (k d : EReal)) * (r : EReal)
      = (((∑ d, (∑ i, x i * w i d) * k d) * r : ℝ) : EReal) := by
  rw [EReal.coe_mul, real_sum]
  refine congrArg (· * (r : EReal)) (Finset.sum_congr rfl fun d _ => ?_)
  rw [EReal.coe_mul, real_sum]
  simp only [EReal.coe_mul]

/-- The maximum of finitely many reals, at least one, is real. -/
theorem fold_max_real {n : ℕ} (hn : 0 < n) (z : Fin n → ℝ) :
    ∃ M : ℝ, (Finset.univ : Finset (Fin n)).fold max (⊥ : EReal) (fun k => (z k : EReal)) = (M : EReal) := by
  classical
  have : ∀ s : Finset (Fin n), s.fold max (⊥ : EReal) (fun k => (z k : EReal)) = ⊥ ∧ s = ∅
      ∨ ∃ M : ℝ, s.fold max (⊥ : EReal) (fun k => (z k : EReal)) = (M : EReal) := by
    intro s
    induction s using Finset.induction_on with
    | empty => exact .inl ⟨by simp, rfl⟩
    | insert a s ha ih =>
      refine .inr ?_
      rw [Finset.fold_insert ha]
      rcases ih with ⟨h, -⟩ | ⟨M, h⟩
      · exact ⟨z a, by rw [h]; exact max_eq_left bot_le⟩
      · exact ⟨max (z a) M, by rw [h]; exact (EReal.coe_strictMono.monotone.map_max).symm⟩
  rcases this Finset.univ with ⟨-, h⟩ | h
  · exact absurd (h ▸ Finset.mem_univ (⟨0, hn⟩ : Fin n)) (by simp)
  · exact h

/-- Softmax attention with real scores: the sum of the values weighted by the exponentials, divided by the sum of the
exponentials, is the sum of the values weighted by the normalised exponentials of the scores less any real. -/
theorem attend {n : ℕ} (hn : 0 < n) (z : Fin n → ℝ) (M : ℝ) (v : Fin n → EReal) :
    Ideal.div (∑ k, Ideal.exp (z k : EReal) * v k) (∑ k, Ideal.exp (z k : EReal))
      = ∑ k, v k * Ideal.div (Ideal.exp ((z k : EReal) - (M : EReal))) (∑ k', Ideal.exp ((z k' : EReal) - (M : EReal))) := by
  have hsum : ∀ y : Fin n → ℝ, 0 < ∑ k, Real.exp (y k) := fun y =>
    Finset.sum_pos (fun k _ => Real.exp_pos _) ⟨⟨0, hn⟩, Finset.mem_univ _⟩
  have e1 : (∑ k, Ideal.exp (z k : EReal)) = ((∑ k, Real.exp (z k) : ℝ) : EReal) := by
    rw [real_sum]
    rfl
  have e2 : (∑ k', Ideal.exp ((z k' : EReal) - (M : EReal))) = ((∑ k, Real.exp (z k - M) : ℝ) : EReal) := by
    rw [real_sum]
    rfl
  rw [e1, e2, Ideal.div_coe (hsum z).ne', sum_mul_real _ _ (by have := hsum z; positivity)]
  refine Finset.sum_congr rfl fun k _ => ?_
  rw [Ideal.div_coe (hsum fun k => z k - M).ne']
  have e3 : Ideal.exp ((z k : EReal) - (M : EReal)) = ((Real.exp (z k - M) : ℝ) : EReal) := rfl
  have e4 : Ideal.exp (z k : EReal) = ((Real.exp (z k) : ℝ) : EReal) := rfl
  rw [e3, e4, ← EReal.coe_mul, mul_comm ((Real.exp (z k) : ℝ) : EReal) (v k), mul_assoc, ← EReal.coe_mul]
  have h : Real.exp (z k) * (1 / ∑ k, Real.exp (z k)) = Real.exp (z k - M) * (1 / ∑ k, Real.exp (z k - M)) := by
    have h1 : (∑ k, Real.exp (z k - M)) = (∑ k, Real.exp (z k)) * Real.exp (-M) := by
      rw [Finset.sum_mul]
      exact Finset.sum_congr rfl fun k _ => by rw [← Real.exp_add, sub_eq_add_neg]
    have hp := (hsum z).ne'
    have hM := (Real.exp_pos (-M)).ne'
    rw [h1, sub_eq_add_neg, Real.exp_add]
    field_simp
  rw [h]

/-- The head and the place in it of a hidden coordinate, device by device: a sum over the 4096 hidden coordinates is a sum
over the devices, their heads and the coordinates of a head. -/
theorem sum_heads (f : Fin 4096 → EReal) :
    ∑ n, f n = ∑ c : Fin 8, ∑ h : Fin 8, ∑ d : Fin 64, f ⟨512 * c.val + 64 * h.val + d.val, by omega⟩ := by
  have e1 := (Equiv.sum_comp (finProdFinEquiv (m := 8) (n := 512)) f).symm
  rw [e1, Fintype.sum_prod_type]
  refine Finset.sum_congr rfl fun c _ => ?_
  have e2 := (Equiv.sum_comp (finProdFinEquiv (m := 8) (n := 64)) fun y : Fin (8 * 64) => f (finProdFinEquiv (m := 8) (n := 512) (c, y))).symm
  refine e2.trans ?_
  rw [Fintype.sum_prod_type]
  refine Finset.sum_congr rfl fun h _ => Finset.sum_congr rfl fun d _ => congrArg f (Fin.ext ?_)
  show (d.val + 64 * h.val) + 512 * c.val = 512 * c.val + 64 * h.val + d.val
  omega

end Cert.AttnReals

end
-- ==== Proof.Value.Kernel.lean ====
/-
# The kernel's result, read at an index

A device's partial result over the reals, at its coordinates, and the sums after the three rounds: every device ends with
the sum of all eight partial results.
-/
module

public import proofs.«01_k».proof.Proof.RingKernelIdeal.Vals
public import proofs.«01_k».proof.Proof.Value.Reals
public import Idealize.ShloMosaic.Lib.Pointwise

@[expose] public section

noncomputable section

namespace Cert.RingValue

open Cert.KernelIdeal Cert.KernelIdeal.Gen Cert.RingKernelIdeal
open Idealize.ShloMosaic
open scoped BigOperators

/-! ## The blocks a device loads -/

/-- The elements of a device's five blocks, as extended reals. -/
abbrev xE (i : Ins Ideal) (b : Fin 2) (q : Fin 512) (e : Fin 768) : EReal := i.x (ix3 b q e)
abbrev wqE (i : Ins Ideal) (e : Fin 768) (n : Fin 4096) : EReal := i.wq (ix2 e n)
abbrev kE (i : Ins Ideal) (b : Fin 2) (k : Fin 512) (h : Fin 8) (d : Fin 64) : EReal := i.k (ix4 b k h d)
abbrev vE (i : Ins Ideal) (b : Fin 2) (k : Fin 512) (h : Fin 8) (d : Fin 64) : EReal := i.v (ix4 b k h d)
abbrev woE (i : Ins Ideal) (n : Fin 4096) (o : Fin 768) : EReal := i.wo (ix2 n o)

theorem off1_eq (c : Dev nD) : k0_off1 c = ![0, 512 * c.val] := by revert c; decide
theorem off2_eq (c : Dev nD) (h : Fin 8) : k0_off2 c (BitVec.ofNat 32 (64 * h.val)) = ![512 * c.val + 64 * h.val, 0] := by revert c h; decide

theorem xAt_apply (i : Ins Ideal) (b : Fin 2) (q : Fin 512) (e : Fin 768) : xAt i b (ix3 0 q e) = xE i b q e := by
  show i.x ((Rect.unit (s := S2x512x768) ![b.val, 0, 0] S1x512x768.size (slab_inb b)).emb (ix3 0 q e)) = _
  congr 1
  funext a
  fin_cases a <;> apply Fin.ext <;> simp [ix3]

theorem wqAt_apply (i : Ins Ideal) (c : Dev nD) (e : Fin 768) (n : Fin 512) :
    wqAt i c (ix2 e n) = wqE i e ⟨512 * c.val + n.val, by have : c.val < 8 := c.isLt; omega⟩ := by
  show i.wq ((Rect.unit (s := S768x4096) (k0_off1 c) S768x512.size (k0_off1_inb c)).emb (ix2 e n)) = _
  congr 1
  funext a
  have h := congrFun (off1_eq c) a
  fin_cases a <;> apply Fin.ext <;> simp [ix2] at h ⊢ <;> omega

theorem kAt_apply (i : Ins Ideal) (b : Fin 2) (h : Fin 8) (k : Fin 512) (d : Fin 64) : kAt i b h (ix4 0 k 0 d) = kE i b k h d := by
  show i.k ((Rect.unit (s := S2x512x8x64) ![b.val, 0, h.val, 0] S1x512x1x64.size (head_inb b h)).emb (ix4 0 k 0 d)) = _
  congr 1
  funext a
  fin_cases a <;> apply Fin.ext <;> simp [ix4]

theorem vAt_apply (i : Ins Ideal) (b : Fin 2) (h : Fin 8) (k : Fin 512) (d : Fin 64) : vAt i b h (ix4 0 k 0 d) = vE i b k h d := by
  show i.v ((Rect.unit (s := S2x512x8x64) ![b.val, 0, h.val, 0] S1x512x1x64.size (head_inb b h)).emb (ix4 0 k 0 d)) = _
  congr 1
  funext a
  fin_cases a <;> apply Fin.ext <;> simp [ix4]

theorem woAt_apply (i : Ins Ideal) (c : Dev nD) (h : Fin 8) (d : Fin 64) (o : Fin 768) :
    woAt i c h (ix2 d o) = woE i ⟨512 * c.val + 64 * h.val + d.val, by have : c.val < 8 := c.isLt; omega⟩ o := by
  show i.wo ((Rect.unit (s := S4096x768) (k0_off2 c (BitVec.ofNat 32 (64 * h.val))) S64x768.size (k0_off2_inb c h)).emb (ix2 d o)) = _
  congr 1
  funext a
  have h := congrFun (off2_eq c h) a
  fin_cases a <;> apply Fin.ext <;> simp [ix2] at h ⊢ <;> omega

/-! ## A partial result -/

/-- The mask at a query and a key. -/
theorem mask_apply (q k : Fin 512) : k0_pay2 (ix2 q k)
    = IntOp.ori (IntOp.cmpi .sle (IntOp.absi (IntOp.subi (BitVec.ofNat 32 q.val) (BitVec.ofNat 32 k.val))) 128#32)
        (IntOp.ori (IntOp.cmpi .slt (BitVec.ofNat 32 k.val) 32#32) (IntOp.cmpi .slt (BitVec.ofNat 32 q.val) 32#32)) := by
  pointwise [k0_pay2]
  exact BitVec.or_assoc _ _ _

/-- A query, scaled through its weights. -/
theorem queries_apply (i : Ins Ideal) (c : Dev nD) (b : Fin 2) (q n : Fin 512) : queries i c b (ix2 q n)
    = ∑ e : Fin 768, xE i b q e * (wqE i e ⟨512 * c.val + n.val, by have : c.val < 8 := c.isLt; omega⟩ * Ideal.ofBits .f32 0x3E000000#32) := by
  pointwise [queries, k0_pay4, k0_pay3]
  exact Finset.sum_congr rfl fun e _ => by rw [xAt_apply, wqAt_apply]

/-- The exponential of a masked score. -/
theorem expo_apply (i : Ins Ideal) (c : Dev nD) (b : Fin 2) (h : Fin 8) (q k : Fin 512) : expo i c b h (ix2 q k)
    = Ideal.exp (Scalar.select (k0_pay2 (ix2 q k))
        (∑ d : Fin 64, (∑ e : Fin 768, xE i b q e * (wqE i e ⟨512 * c.val + (64 * h.val + d.val), by have : c.val < 8 := c.isLt; omega⟩
          * Ideal.ofBits .f32 0x3E000000#32)) * kE i b k h d)
        (Ideal.ofBits .f32 0xCE6E6B28#32)) := by
  pointwise [expo]
  refine congrArg (fun y => Ideal.exp (Scalar.select (k0_pay2 (ix2 q k)) y (Ideal.ofBits .f32 0xCE6E6B28#32))) ?_
  exact Finset.sum_congr rfl fun d _ => by rw [queries_apply, kAt_apply]

/-- One head's contribution: its context divided by the row's sum, projected. -/
theorem headOut_apply (i : Ins Ideal) (c : Dev nD) (b : Fin 2) (h : Fin 8) (q : Fin 512) (o : Fin 768) : headOut i c b h (ix2 q o)
    = ∑ d : Fin 64, Ideal.div (∑ k : Fin 512, expo i c b h (ix2 q k) * vE i b k h d) (∑ k : Fin 512, expo i c b h (ix2 q k))
        * woE i ⟨512 * c.val + 64 * h.val + d.val, by have : c.val < 8 := c.isLt; omega⟩ o := by
  pointwise [headOut]
  refine Finset.sum_congr rfl fun d _ => ?_
  rw [woAt_apply]
  refine congrArg (fun y => Ideal.div y _ * _) ?_
  exact Finset.sum_congr rfl fun k _ => by rw [vAt_apply]

/-- A partial result is the sum of its heads. -/
theorem partial0_apply (i : Ins Ideal) (c : Dev nD) (b : Fin 2) (q : Fin 512) (o : Fin 768) :
    partial0 i c b (ix3 0 q o) = ∑ h : Fin 8, headOut i c b h (ix2 q o) := by
  rw [Fin.sum_univ_eight]
  pointwise [partial0, headSum, k0_pay5]

/-! ## The exchange -/

/-- The devices whose partial results meet at `c` in the three rounds of chunk `j`. -/
def meet (j : Fin 3) (c : Dev nD) : Fin 8 → Fin 8 :=
  ![c, peer (order j 0) c, peer (order j 1) c, peer (order j 0) (peer (order j 1) c),
    peer (order j 2) c, peer (order j 0) (peer (order j 2) c), peer (order j 1) (peer (order j 2) c),
    peer (order j 0) (peer (order j 1) (peer (order j 2) c))]

/-- They are all eight, each once. -/
theorem meet_bijective (j : Fin 3) (c : Dev nD) : Function.Bijective (meet j c) := by
  refine Finite.injective_iff_bijective.mp ?_
  revert j c
  decide

/-- After three rounds every device holds the sum of the eight. -/
theorem sums_three (I : Dev nD → Ins Ideal) (c : Dev nD) (b : Fin 2) (q : Fin 512) (o : Fin 768) :
    Sbuf I 3 c (ix3 b q o) = ∑ c' : Fin 8, Sbuf I 0 c' (ix3 b q o) := by
  have hj : o.val / 256 < 3 := by omega
  obtain ⟨j, hj⟩ : ∃ j : Fin 3, j = ⟨o.val / 256, hj⟩ := ⟨_, rfl⟩
  have step : ∀ (t : ℕ) (c' : Dev nD), Sbuf I (t + 1) c' (ix3 b q o)
      = Sbuf I t c' (ix3 b q o) + Sbuf I t (peer (order j (Fin.ofNat 3 t)) c') (ix3 b q o) := fun t c' => by rw [hj]; rfl
  rw [← (meet_bijective j c).sum_comp fun c' => Sbuf I 0 c' (ix3 b q o), Fin.sum_univ_eight]
  rw [step 2, step 1, step 1, step 0, step 0, step 0, step 0]
  simp only [add_assoc]
  rfl

/-- The result on every device: the heads of all devices added up. -/
theorem outVal_apply (I : Dev nD → Ins Ideal) (c : Dev nD) (b : Fin 2) (q : Fin 512) (o : Fin 768) :
    outVal I c (ix3 b q o) = ∑ c' : Fin 8, ∑ h : Fin 8, headOut (I c') c' b h (ix2 q o) := by
  refine Eq.trans (b := Sbuf I 3 c (ix3 b q o)) rfl ?_
  rw [sums_three]
  exact Finset.sum_congr rfl fun c' _ => partial0_apply (I c') c' b q o

end Cert.RingValue

end
-- ==== Proof.Value.Reference.lean ====
/-
# The reference, read at an index

The layer as the reference writes it, stage by stage: the mask, the masked scores, the exponentials, the normalised
weights, the contexts and the result, each read at its coordinates as a sum over the reals.
-/
module

public import proofs.«01_k».proof.Proof.Gen.ReferenceIdeal.Run
public import proofs.«01_k».proof.Proof.Value.Reals
public import Idealize.ShloMosaic.Lib.Pointwise
public import Idealize.ShloMosaic.Lib.IdealHost
public import Idealize.ShloMosaic.PureOps.Reduce

@[expose] public section

noncomputable section

namespace Cert.RefValue

open Cert.ReferenceIdeal Cert.ReferenceIdeal.Gen
open Idealize.ShloMosaic
open scoped BigOperators

/-- The mask over queries and keys. -/
def maskV : IVec S512x512 1 :=
  ori (cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 128#32))) (ori (broadcastInDim S512x512 ![0, 1] bcast_S1x512_S512x512_0_1 (cmpi .slt (broadcastInDim S1x512 ![1] bcast_S512_S1x512_1 (iotaInDim S512 32 0)) (broadcastInDim S1x512 ![] bcast_S_S1x512 (constantI S_ 32 32#32)))) (broadcastInDim S512x512 ![0, 1] bcast_S512x1_S512x512_0_1 (cmpi .slt (broadcastInDim S512x1 ![0] bcast_S512_S512x1_0 (iotaInDim S512 32 0)) (broadcastInDim S512x1 ![] bcast_S_S512x1 (constantI S_ 32 32#32)))))

/-- Whether a query sees any key. -/
def keepV : IVec S512 1 := Host.reduce IntOp.ori maskV (constantI S_ 1 0#1) reducesTo_S512x512_S512_d1 h_S_

/-- The masked scores. -/
def scoreV (x : FVec Ideal S2x512x768 .f32) (wq : FVec Ideal S768x4096 .f32) (k : FVec Ideal S2x512x64x64 .f32) : FVec Ideal S2x64x512x512 .f32 :=
  select (broadcastInDim S2x64x512x512 ![0, 1, 2, 3] bcast_S1x1x512x512_S2x64x512x512_0_1_2_3 (broadcastInDim S1x1x512x512 ![2, 3] bcast_S512x512_S1x1x512x512_2_3 maskV))
    (mulf (Host.dotGeneral dot_S2x512x64x64_S2x512x64x64_S2x64x512x512_3_3_1_1_02_02 none (shapeCast _ (Host.dotGeneral dot_S2x512x768_S768x4096_S2x512x4096_2_0_01_1_n_n none x wq) shapeCasts_S2x512x4096_S2x512x64x64) k)
      (broadcastInDim S2x64x512x512 ![] bcast_S_S2x64x512x512 (constant S_ .f32 0x3E000000#32)))
    (broadcastInDim S2x64x512x512 ![] bcast_S_S2x64x512x512 (id (constant S_ .f32 0xCE6E6B28#32)))

/-- The row maxima of the masked scores. -/
def maxV (z : FVec Ideal S2x64x512x512 .f32) : FVec Ideal S2x64x512 .f32 :=
  Host.reduce FloatOps.maximumf z (constant S_ .f32 0xFF800000#32) reducesTo_S2x64x512x512_S2x64x512_d3 h_S_

/-- The exponentials of the scores less their row's maximum. -/
def expV (z : FVec Ideal S2x64x512x512 .f32) : FVec Ideal S2x64x512x512 .f32 :=
  Host.exp (subf z (broadcastInDim S2x64x512x512 ![0, 1, 2, 3] bcast_S2x64x512x1_S2x64x512x512_0_1_2_3 (broadcastInDim S2x64x512x1 ![0, 1, 2] bcast_S2x64x512_S2x64x512x1_0_1_2 (maxV z))))

/-- The row sums that divide them. -/
def sumV (e : FVec Ideal S2x64x512x512 .f32) : FVec Ideal S2x64x512x1 .f32 :=
  select (broadcastInDim S2x64x512x1 ![0, 1, 2, 3] bcast_S1x1x512x1_S2x64x512x1_0_1_2_3 (broadcastInDim S1x1x512x1 ![2] bcast_S512_S1x1x512x1_2 keepV))
    (broadcastInDim S2x64x512x1 ![0, 1, 2] bcast_S2x64x512_S2x64x512x1_0_1_2 (Host.reduceAdd e (constant S_ .f32 0x00000000#32) reducesTo_S2x64x512x512_S2x64x512_d3 h_S_))
    (broadcastInDim S2x64x512x1 ![] bcast_S_S2x64x512x1 (id (constant S_ .f32 0x3F800000#32)))

/-- The normalised weights. -/
def weightV (e : FVec Ideal S2x64x512x512 .f32) : FVec Ideal S2x64x512x512 .f32 :=
  select (broadcastInDim S2x64x512x512 ![0, 1, 2, 3] bcast_S1x1x512x1_S2x64x512x512_0_1_2_3 (broadcastInDim S1x1x512x1 ![2] bcast_S512_S1x1x512x1_2 keepV))
    (Host.divf e (broadcastInDim S2x64x512x512 ![0, 1, 2, 3] bcast_S2x64x512x1_S2x64x512x512_0_1_2_3 (sumV e)))
    (broadcastInDim S2x64x512x512 ![] bcast_S_S2x64x512x512 (id (constant S_ .f32 0x00000000#32)))

/-- The contexts, a query's heads side by side. -/
def ctxV (w : FVec Ideal S2x64x512x512 .f32) (v : FVec Ideal S2x512x64x64 .f32) : FVec Ideal S2x512x4096 .f32 :=
  shapeCast _ (transpose S2x512x64x64 [0, 3, 1, 2] (Host.dotGeneral dot_S2x512x64x64_S2x64x512x512_S2x64x64x512_1_3_3_2_02_01 none v w) transposes_S2x64x64x512_S2x512x64x64_0_3_1_2) shapeCasts_S2x512x64x64_S2x512x4096

/-- The result. -/
def resV (c : FVec Ideal S2x512x4096 .f32) (wo : FVec Ideal S4096x768 .f32) : FVec Ideal S2x512x768 .f32 :=
  Host.dotGeneral dot_S2x512x4096_S4096x768_S2x512x768_2_0_01_1_n_n none c wo

/-- The reference's result is these stages in turn. -/
theorem res_eq (m : (ℓ : Loc nD τ sig) → Buf (Elt Ideal) ℓ) (c : Dev nD) :
    Cert.ReferenceIdeal.Value.res_main_v42 m c
      = resV (ctxV (weightV (expV (scoreV (m ((c.tc : Thread nD τ).loc main_arg0)) (m ((c.tc : Thread nD τ).loc main_arg1)) (m ((c.tc : Thread nD τ).loc main_arg2)))))
          (m ((c.tc : Thread nD τ).loc main_arg3))) (m ((c.tc : Thread nD τ).loc main_arg4)) := rfl

/-! ## The stages at an index -/

/-- The mask at a query and a key. -/
theorem maskV_apply (q k : Fin 512) : maskV (ix2 q k)
    = IntOp.ori (IntOp.cmpi .sle (IntOp.absi (IntOp.subi (BitVec.ofNat 32 q.val) (BitVec.ofNat 32 k.val))) 128#32)
        (IntOp.ori (IntOp.cmpi .slt (BitVec.ofNat 32 k.val) 32#32) (IntOp.cmpi .slt (BitVec.ofNat 32 q.val) 32#32)) := by
  pointwise [maskV]

theorem ori_one_left (a : BitVec 1) : IntOp.ori 1#1 a = 1#1 := by revert a; decide
theorem ori_one_right (a : BitVec 1) : IntOp.ori a 1#1 = 1#1 := by revert a; decide

/-- Every query sees the first key. -/
theorem maskV_first (q : Fin 512) : maskV (ix2 q 0) = 1#1 := by
  rw [maskV_apply, show IntOp.cmpi .slt (BitVec.ofNat 32 (0 : Fin 512).val) 32#32 = 1#1 by decide, ori_one_left, ori_one_right]

/-- So no row is empty. -/
theorem keepV_apply (q : Fin 512) : keepV (ix1 q) = 1#1 := by
  have h : keepV (ix1 q) = Finset.fold IntOp.ori (0#1) (fun k => maskV (ix2 q k)) Finset.univ := by pointwise [keepV]
  rw [h, ← Finset.insert_erase (Finset.mem_univ (0 : Fin 512)), Finset.fold_insert (Finset.notMem_erase _ _), maskV_first, ori_one_left]

/-- A masked score. -/
theorem scoreV_apply (x : FVec Ideal S2x512x768 .f32) (wq : FVec Ideal S768x4096 .f32) (kk : FVec Ideal S2x512x64x64 .f32)
    (b : Fin 2) (h : Fin 64) (q k : Fin 512) : scoreV x wq kk (ix4 b h q k)
      = Scalar.select (maskV (ix2 q k))
          ((∑ d : Fin 64, (∑ i : Fin 768, x (ix3 b q i) * wq (ix2 i ⟨h.val * 64 + d.val, by omega⟩)) * kk (ix4 b k h d))
            * Ideal.ofBits .f32 0x3E000000#32)
          (Ideal.ofBits .f32 0xCE6E6B28#32) := by
  pointwise [scoreV]
  rfl

/-- A row's maximum. -/
theorem maxV_apply (z : FVec Ideal S2x64x512x512 .f32) (b : Fin 2) (h : Fin 64) (q : Fin 512) :
    maxV z (ix3 b h q) = (Finset.univ : Finset (Fin 512)).fold max (Ideal.ofBits .f32 0xFF800000#32) (fun k => z (ix4 b h q k)) := by
  pointwise [maxV]

/-- An exponential. -/
theorem expV_apply (z : FVec Ideal S2x64x512x512 .f32) (b : Fin 2) (h : Fin 64) (q k : Fin 512) :
    expV z (ix4 b h q k) = Ideal.exp (z (ix4 b h q k) - maxV z (ix3 b h q)) := by
  pointwise [expV]

/-- A weight: no row is empty, so it is the exponential divided by its row's sum. -/
theorem weightV_apply (e : FVec Ideal S2x64x512x512 .f32) (b : Fin 2) (h : Fin 64) (q k : Fin 512) :
    weightV e (ix4 b h q k) = Ideal.div (e (ix4 b h q k)) (∑ k' : Fin 512, e (ix4 b h q k')) := by
  pointwise [weightV, sumV]
  rw [keepV_apply]
  rfl

/-- A context: the values of the head weighted. -/
theorem ctxV_apply (w : FVec Ideal S2x64x512x512 .f32) (v : FVec Ideal S2x512x64x64 .f32) (b : Fin 2) (q : Fin 512) (n : Fin 4096) :
    ctxV w v (ix3 b q n)
      = ∑ k : Fin 512, v (ix4 b k ⟨n.val / 64, by omega⟩ ⟨n.val % 64, by omega⟩) * w (ix4 b ⟨n.val / 64, by omega⟩ q k) := by
  pointwise [ctxV]

/-- A result: the contexts of all heads projected. -/
theorem resV_apply (c : FVec Ideal S2x512x4096 .f32) (wo : FVec Ideal S4096x768 .f32) (b : Fin 2) (q : Fin 512) (o : Fin 768) :
    resV c wo (ix3 b q o) = ∑ n : Fin 4096, c (ix3 b q n) * wo (ix2 n o) := by
  pointwise [resV]

end Cert.RefValue

end
-- ==== Proof.Value.Agree.lean ====
/-
# The kernel's result is the reference's

Where the tokens, the query weights and the keys are real numbers, every device's result is the reference's, at every
coordinate. The values and the output weights may be any extended reals.
-/
module

public import proofs.«01_k».proof.Proof.Value.Kernel
public import proofs.«01_k».proof.Proof.Value.Reference

@[expose] public section

noncomputable section

namespace Cert.Agree

open Cert.ReferenceIdeal
open Idealize.ShloMosaic
open Cert.RingKernelIdeal (Ins expo headOut outVal)
open Cert.RingValue Cert.RefValue
open scoped BigOperators

/-! ## The constants -/

/-- The scale, one eighth, is a real. -/
theorem scale_real : ∃ r : ℝ, Ideal.ofBits .f32 0x3E000000#32 = (r : EReal) := by
  refine ⟨1 / 8, ?_⟩
  simp [Ideal.ofBits, Ideal.ieee, -EReal.coe_mul]
  norm_num

/-- The masked score, minus a thousand million, is a real. -/
theorem masked_real : ∃ r : ℝ, Ideal.ofBits .f32 0xCE6E6B28#32 = (r : EReal) := by
  refine ⟨-1000000000, ?_⟩
  simp [Ideal.ofBits, Ideal.ieee, -EReal.coe_mul]
  norm_num

/-- The maximum starts from minus infinity. -/
theorem bottom_word : Ideal.ofBits .f32 0xFF800000#32 = ⊥ := by
  simp [Ideal.ofBits, Ideal.ieee]

theorem select_real (c : BitVec 1) (a b : ℝ) : Scalar.select c (a : EReal) (b : EReal) = ((Scalar.select c a b : ℝ) : EReal) := by
  unfold Scalar.select
  split <;> rfl

/-! ## The arrays -/

/-- What the devices are given, of the whole arrays: all of the tokens and weights, and the keys and values of the device's
eight heads. -/
structure Parts (I : Dev Cert.KernelIdeal.nD → Ins Ideal) (x : FVec Ideal S2x512x768 .f32) (wq : FVec Ideal S768x4096 .f32)
    (k v : FVec Ideal S2x512x64x64 .f32) (wo : FVec Ideal S4096x768 .f32) : Prop where
  x : ∀ c b q e, xE (I c) b q e = x (ix3 b q e)
  wq : ∀ c e n, wqE (I c) e n = wq (ix2 e n)
  k : ∀ (c : Dev Cert.KernelIdeal.nD) b j (h : Fin 8) d, kE (I c) b j h d = k (ix4 b j ⟨8 * c.val + h.val, by have : c.val < 8 := c.isLt; omega⟩ d)
  v : ∀ (c : Dev Cert.KernelIdeal.nD) b j (h : Fin 8) d, vE (I c) b j h d = v (ix4 b j ⟨8 * c.val + h.val, by have : c.val < 8 := c.isLt; omega⟩ d)
  wo : ∀ c n o, woE (I c) n o = wo (ix2 n o)

variable {I : Dev Cert.KernelIdeal.nD → Ins Ideal} {x : FVec Ideal S2x512x768 .f32} {wq : FVec Ideal S768x4096 .f32}
  {k v : FVec Ideal S2x512x64x64 .f32} {wo : FVec Ideal S4096x768 .f32}

/-- The masked score of real tokens, weights and keys, as a real. -/
def scoreR (xr : Fin 2 → Fin 512 → Fin 768 → ℝ) (wr : Fin 768 → Fin 4096 → ℝ) (kr : Fin 2 → Fin 512 → Fin 64 → Fin 64 → ℝ) (scale masked : ℝ)
    (b : Fin 2) (h : Fin 64) (q j : Fin 512) : ℝ :=
  Scalar.select (maskV (ix2 q j)) ((∑ d : Fin 64, (∑ e : Fin 768, xr b q e * wr e ⟨h.val * 64 + d.val, by omega⟩) * kr b j h d) * scale) masked

section
variable {xr : Fin 2 → Fin 512 → Fin 768 → ℝ} {wr : Fin 768 → Fin 4096 → ℝ} {kr : Fin 2 → Fin 512 → Fin 64 → Fin 64 → ℝ} {scale masked : ℝ}
  (hx : ∀ b q e, x (ix3 b q e) = (xr b q e : EReal)) (hw : ∀ e n, wq (ix2 e n) = (wr e n : EReal))
  (hk : ∀ b j h d, k (ix4 b j h d) = (kr b j h d : EReal))
  (hs : Ideal.ofBits .f32 0x3E000000#32 = (scale : EReal)) (hm : Ideal.ofBits .f32 0xCE6E6B28#32 = (masked : EReal))
include hx hw hk hs hm

/-- The reference's masked score. -/
theorem reference_score (b : Fin 2) (h : Fin 64) (q j : Fin 512) :
    scoreV x wq k (ix4 b h q j) = (scoreR xr wr kr scale masked b h q j : EReal) := by
  rw [scoreV_apply, scoreR, ← select_real, hs, hm]
  refine congrArg (fun y => Scalar.select (maskV (ix2 q j)) y (masked : EReal)) ?_
  simp only [hx, hw, hk]
  exact Cert.AttnReals.score_after (fun e => xr b q e) (fun e d => wr e ⟨h.val * 64 + d.val, by omega⟩) (fun d => kr b j h d) scale

/-- The kernel's exponential is that of the same score. -/
theorem kernel_expo (hI : Parts I x wq k v wo) (c : Dev Cert.KernelIdeal.nD) (b : Fin 2) (h : Fin 8) (q j : Fin 512) :
    expo (I c) c b h (ix2 q j)
      = Ideal.exp (scoreR xr wr kr scale masked b ⟨8 * c.val + h.val, by have : c.val < 8 := c.isLt; omega⟩ q j : EReal) := by
  have hc : c.val < 8 := c.isLt
  rw [expo_apply, scoreR, ← select_real, hs, hm, maskV_apply, mask_apply]
  refine congrArg (fun y => Ideal.exp (Scalar.select _ y (masked : EReal))) ?_
  simp only [hI.x, hI.wq, hI.k, hx, hw, hk]
  rw [Cert.AttnReals.score_scaled (fun e => xr b q e) (fun e (d : Fin 64) => wr e ⟨512 * c.val + (64 * h.val + d.val), by omega⟩)
    (fun d => kr b j ⟨8 * c.val + h.val, by omega⟩ d) scale]
  have hn : ∀ d : Fin 64, (⟨512 * c.val + (64 * h.val + d.val), by omega⟩ : Fin 4096) = ⟨(8 * c.val + h.val) * 64 + d.val, by omega⟩ :=
    fun d => Fin.ext (by dsimp only; omega)
  simp only [hn]

/-- One coordinate of a head's context. -/
theorem context_eq (hI : Parts I x wq k v wo) (c : Dev Cert.KernelIdeal.nD) (b : Fin 2) (h : Fin 8) (q : Fin 512) (d : Fin 64) :
    Ideal.div (∑ j : Fin 512, expo (I c) c b h (ix2 q j) * vE (I c) b j h d) (∑ j : Fin 512, expo (I c) c b h (ix2 q j))
      = ctxV (weightV (expV (scoreV x wq k))) v (ix3 b q ⟨512 * c.val + 64 * h.val + d.val, by have : c.val < 8 := c.isLt; omega⟩) := by
  have hc : c.val < 8 := c.isLt
  have h1 : (⟨(512 * c.val + 64 * h.val + d.val) / 64, by omega⟩ : Fin 64) = ⟨8 * c.val + h.val, by omega⟩ := Fin.ext (by dsimp only; omega)
  have h2 : (⟨(512 * c.val + 64 * h.val + d.val) % 64, by omega⟩ : Fin 64) = d := Fin.ext (by dsimp only; omega)
  rw [ctxV_apply]
  dsimp only
  rw [h1, h2]
  obtain ⟨M, hM⟩ := Cert.AttnReals.fold_max_real (by decide) fun j => scoreR xr wr kr scale masked b ⟨8 * c.val + h.val, by omega⟩ q j
  have hmax : maxV (scoreV x wq k) (ix3 b ⟨8 * c.val + h.val, by omega⟩ q) = (M : EReal) := by
    rw [maxV_apply, bottom_word, ← hM]
    exact congrArg (fun f => (Finset.univ : Finset (Fin 512)).fold max (⊥ : EReal) f) (funext fun j => reference_score hx hw hk hs hm b _ q j)
  simp only [kernel_expo hx hw hk hs hm hI, weightV_apply, expV_apply, hmax, reference_score hx hw hk hs hm, hI.v]
  exact Cert.AttnReals.attend (by decide) _ M fun j => v (ix4 b j ⟨8 * c.val + h.val, by omega⟩ d)

/-- Every device's result is the reference's. -/
theorem result_eq (hI : Parts I x wq k v wo) (c : Dev Cert.KernelIdeal.nD) :
    outVal I c = resV (ctxV (weightV (expV (scoreV x wq k))) v) wo := by
  suffices H : ∀ (b : Fin 2) (q : Fin 512) (o : Fin 768),
      outVal I c (ix3 b q o) = resV (ctxV (weightV (expV (scoreV x wq k))) v) wo (ix3 b q o) by
    funext i
    rw [eq_ix3 i]
    exact H _ _ _
  intro b q o
  rw [outVal_apply, resV_apply, Cert.AttnReals.sum_heads]
  refine Finset.sum_congr rfl fun c' _ => Finset.sum_congr rfl fun h _ => ?_
  rw [headOut_apply]
  refine Finset.sum_congr rfl fun d _ => ?_
  rw [context_eq hx hw hk hs hm hI, hI.wo]

end

end Cert.Agree

end
-- ==== Proof.Value.Finite.lean ====
/-
# The precondition

The precondition says that the tokens, the query weights and a device's keys are all of finite magnitude. Here that is
turned into: each of them is a real number. The keys of all heads are real because every device's are.
-/
module

public import proofs.«01_k».proof.Defs
public import proofs.«01_k».proof.Proof.Gen.KernelIdeal
public import proofs.«01_k».proof.Proof.Gen.ReferenceIdeal
public import Idealize.ShloMosaic.Lib.Pointwise
public import Idealize.ShloMosaic.PureOps.Reduce
public import Idealize.ShloMosaic.PureOps.Ideal.Laws

@[expose] public section

noncomputable section

namespace Cert.Finite

open Idealize.ShloMosaic

theorem facts_kernel : Cert.Pre_finite_scores_KernelIdeal.Facts where
  bcast_S_S2x512x768 := by decide
  reducesTo_S2x512x768_S_d0_1_2 := by decide
  h_S_ := by decide
  bcast_S_S768x4096 := by decide
  reducesTo_S768x4096_S_d0_1 := by decide
  bcast_S_S2x512x8x64 := by decide
  reducesTo_S2x512x8x64_S_d0_1_2_3 := by decide

theorem facts_reference : Cert.Pre_finite_scores_ReferenceIdeal.Facts where
  bcast_S_S2x512x768 := by decide
  reducesTo_S2x512x768_S_d0_1_2 := by decide
  h_S_ := by decide
  bcast_S_S768x4096 := by decide
  reducesTo_S768x4096_S_d0_1 := by decide
  bcast_S_S2x512x64x64 := by decide
  reducesTo_S2x512x64x64_S_d0_1_2_3 := by decide

/-- Both bits of a conjunction that is set are set. -/
theorem andi_one {a b : BitVec 1} (h : IntOp.andi a b = 1#1) : a = 1#1 ∧ b = 1#1 := by revert a b; decide

/-- A conjunction of many bits that is set has every bit set. -/
theorem fold_andi_one {ι : Type} (s : Finset ι) (f : ι → BitVec 1) (h : s.fold IntOp.andi (1#1) f = 1#1) : ∀ i ∈ s, f i = 1#1 := by
  classical
  induction s using Finset.induction_on with
  | empty => intro i hi; simp at hi
  | insert a s ha ih =>
    rw [Finset.fold_insert ha] at h
    intro i hi
    rcases Finset.mem_insert.mp hi with rfl | hi
    · exact (andi_one h).1
    · exact ih (andi_one h).2 i hi

/-- An extended real whose magnitude is below plus infinity is real. -/
theorem real_of_below (a : EReal) (h : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h
  have hlt : max a (-a) < ⊤ := by
    by_contra hn
    simp [Ideal.cmp, hn] at h
  induction a using EReal.rec with
  | bot => simp at hlt
  | top => simp at hlt
  | coe r => exact ⟨r, rfl⟩

/-- An array that passes the test of finite magnitudes has real elements only. -/
theorem real_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant ⟨0, ![]⟩ .f32 0x7F800000#32)))
      (constantI ⟨0, ![]⟩ 1 1#1) hr hu j = 1#1) : ∀ i : s.Idx, ∃ r : ℝ, x i = (r : EReal) := by
  rw [Host.reduce_eq_fold] at h
  intro i
  exact real_of_below (x i) (fold_andi_one _ _ h i (Finset.mem_filter.mpr ⟨Finset.mem_univ _, funext fun a => a.elim0⟩))

attribute [local instance] facts_kernel

/-- What the precondition says of one device's blocks. -/
theorem real_of_pre (x : FVec Ideal ⟨3, ![2, 512, 768]⟩ .f32) (wq : FVec Ideal ⟨2, ![768, 4096]⟩ .f32) (k v : FVec Ideal ⟨4, ![2, 512, 8, 64]⟩ .f32)
    (wo : FVec Ideal ⟨2, ![4096, 768]⟩ .f32) (h : Cert.Pre_finite_scores_KernelIdeal.fn (F := Ideal) x wq k v wo = fun _ => 1#1) :
    (∀ i, ∃ r : ℝ, x i = (r : EReal)) ∧ (∀ i, ∃ r : ℝ, wq i = (r : EReal)) ∧ ∀ i, ∃ r : ℝ, k i = (r : EReal) := by
  have h0 := congrFun h ix0
  obtain ⟨h1, h2⟩ := andi_one h0
  obtain ⟨h3, h4⟩ := andi_one h1
  exact ⟨real_of_all x _ _ _ _ h3, real_of_all wq _ _ _ _ h4, real_of_all k _ _ _ _ h2⟩

end Cert.Finite

end
-- ==== Proof.lean ====
/-
# The claims

The programs leave their arguments as they were, end, and leave every counter at zero; and where the tokens, the query
weights and the keys are finite, every device ends with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RingKernel.Launch
public import proofs.«01_k».proof.Proof.RingKernelIdeal.Launch
public import proofs.«01_k».proof.Proof.Value.Agree
public import proofs.«01_k».proof.Proof.Value.Finite
public import Idealize.ShloMosaic.Adequacy
public import Idealize.ShloMosaic.Init

@[expose] public section

noncomputable section

namespace Cert.Proof

open Idealize.ShloMosaic Idealize.SL.Sem

/-- The kernel on eight devices leaves its arguments and its counters as they were. -/
theorem frame_kernel [Cert.Kernel.Facts] : Cert.quiescent_Kernel :=
  fun m g _ => (θ_run _ _ _).mono (fun _ h => ⟨fun c => (h.1 c).2, h.2⟩) (Cert.RingKernel.run (F := Bits) m g)

/-- So does the kernel over the reals. -/
theorem frame_ideal [Cert.KernelIdeal.Facts] : Cert.quiescent_KernelIdeal :=
  fun m g _ => (θ_run _ _ _).mono (fun _ h => ⟨fun c => (h.1 c).2, h.2⟩) (Cert.RingKernelIdeal.run (F := Ideal) m g)

/-- So does the reference, which has no counters at all. -/
theorem frame_reference [Cert.ReferenceIdeal.Facts] : Cert.quiescent_ReferenceIdeal :=
  fun m g _ => (θ_run _ _ _).mono (fun r h => ⟨fun c => (h c).2, sem_eq_zero_of_no_sems (by decide) r.2⟩)
    (Cert.ReferenceIdeal.Value.run (F := Ideal) m g)

attribute [local instance] Cert.Finite.facts_kernel Cert.Finite.facts_reference

/-- Where a block of eight heads lies in the array of all heads. -/
theorem block_heads (c : Fin 8) (w : (⟨4, ![2, 512, 64, 64]⟩ : Shape).Idx → EReal) (b : Fin 2) (j : Fin 512) (h : Fin 8) (d : Fin 64) :
    Layout.block ⟨4, ![2, 512, 8, 64]⟩ ⟨4, ![2, 512, 64, 64]⟩ 2 8 c w (by decide) (ix4 b j h d) = w (ix4 b j ⟨8 * c.val + h.val, by omega⟩ d) := by
  refine congrArg w (funext fun a => ?_)
  fin_cases a <;> apply Fin.ext
  · rfl
  · rfl
  · show c.val * 8 + h.val = 8 * c.val + h.val
    omega
  · rfl

/-- Over the reals every device ends with the reference's result. -/
theorem algebraic : Cert.algebraic_KernelIdeal_ReferenceIdeal_pre_finite_scores_KernelIdeal := by
  intro m g m' g' hpre hagree
  have hparts : Cert.Agree.Parts (Cert.RingKernelIdeal.args m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b q e => congrFun (hagree c).1 (ix3 b q e)
      wq := fun c e n => congrFun (hagree c).2.1 (ix2 e n)
      k := fun c b j h d => (congrFun (hagree c).2.2.1 (ix4 b j h d)).trans (block_heads c _ b j h d)
      v := fun c b j h d => (congrFun (hagree c).2.2.2.1 (ix4 b j h d)).trans (block_heads c _ b j h d)
      wo := fun c n o => congrFun (hagree c).2.2.2.2 (ix2 n o) }
  have hfin := fun c => Cert.Finite.real_of_pre _ _ _ _ _ (hpre c)
  have hx : ∀ b q e, ∃ r : ℝ, Cert.RingValue.xE (Cert.RingKernelIdeal.args m 0) b q e = (r : EReal) := fun b q e => (hfin 0).1 (ix3 b q e)
  have hw : ∀ e n, ∃ r : ℝ, Cert.RingValue.wqE (Cert.RingKernelIdeal.args m 0) e n = (r : EReal) := fun e n => (hfin 0).2.1 (ix2 e n)
  have hk : ∀ b j (h : Fin 64) d, ∃ r : ℝ,
      m' (((0 : Dev Cert.ReferenceIdeal.nD).tc : Thread Cert.ReferenceIdeal.nD Cert.ReferenceIdeal.τ).loc Cert.ReferenceIdeal.main_arg2) (ix4 b j h d) = (r : EReal) := by
    intro b j h d
    obtain ⟨r, hr⟩ := (hfin ⟨h.val / 8, by show _ < 8; omega⟩).2.2 (ix4 b j ⟨h.val % 8, by omega⟩ d)
    refine ⟨r, Eq.trans ?_ hr⟩
    refine Eq.trans ?_ (hparts.k ⟨h.val / 8, by show _ < 8; omega⟩ b j ⟨h.val % 8, by omega⟩ d).symm
    have hh : (⟨8 * (h.val / 8) + h.val % 8, by omega⟩ : Fin 64) = h := Fin.ext (by dsimp only; omega)
    dsimp only
    rw [hh]
  choose xr hxr using hx
  choose wr hwr using hw
  choose kr hkr using hk
  obtain ⟨scale, hs⟩ := Cert.Agree.scale_real
  obtain ⟨masked, hm⟩ := Cert.Agree.masked_real
  have hval := Cert.Agree.result_eq (fun b q e => (hparts.x 0 b q e).symm.trans (hxr b q e)) (fun e n => (hparts.wq 0 e n).symm.trans (hwr e n)) hkr hs hm hparts
  refine ⟨Cert.ReferenceIdeal.Value.res_main_v42 m' 0, ?_, ?_⟩
  · exact (θ_run _ _ _).mono (fun _ h c => ⟨(h.1 c).1.trans ((hval c).trans (Cert.RefValue.res_eq m' 0).symm), (h.1 c).2⟩)
      (Cert.RingKernelIdeal.run (F := Ideal) m g)
  · exact (θ_run _ _ _).mono (fun _ h => h 0) (Cert.ReferenceIdeal.Value.run (F := Ideal) m' g')

/-- All the claims. -/
theorem claim : Cert.Claim :=
  ⟨Cert.Kernel.Gen.facts, Cert.KernelIdeal.Gen.facts, Cert.ReferenceIdeal.Gen.facts, Cert.Finite.facts_kernel, Cert.Finite.facts_reference,
    frame_kernel, frame_ideal, fun m g _ => frame_ideal m g trivial, frame_reference, fun m g _ => frame_reference m g trivial, trivial, algebraic⟩

end Cert.Proof

end
